-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8732x81 : Shape := ⟨3, ![8, 8732, 81]⟩
abbrev S8x8732x4 : Shape := ⟨3, ![8, 8732, 4]⟩
abbrev S8732x4 : Shape := ⟨2, ![8732, 4]⟩
abbrev S8x2 : Shape := ⟨2, ![8, 2]⟩
abbrev S8x8732x80 : Shape := ⟨3, ![8, 8732, 80]⟩
abbrev S1x8732x81 : Shape := ⟨3, ![1, 8732, 81]⟩
abbrev S1x8732x4 : Shape := ⟨3, ![1, 8732, 4]⟩
abbrev S1x8732x80 : Shape := ⟨3, ![1, 8732, 80]⟩
abbrev S8732x81 : Shape := ⟨2, ![8732, 81]⟩
abbrev S8732x1 : Shape := ⟨2, ![8732, 1]⟩
abbrev S8732 : Shape := ⟨1, ![8732]⟩
abbrev S8732x80 : Shape := ⟨2, ![8732, 80]⟩
abbrev S8x698560 : Shape := ⟨2, ![8, 698560]⟩
abbrev S8x1000 : Shape := ⟨2, ![8, 1000]⟩
abbrev S_ : Shape := ⟨0, ![]⟩
abbrev S8x1000x1 : Shape := ⟨3, ![8, 1000, 1]⟩
abbrev S1 : Shape := ⟨1, ![1]⟩
abbrev S1x1x1 : Shape := ⟨3, ![1, 1, 1]⟩
abbrev S8x1000x4 : Shape := ⟨3, ![8, 1000, 4]⟩
abbrev S8 : Shape := ⟨1, ![8]⟩
abbrev S8x1x1 : Shape := ⟨3, ![8, 1, 1]⟩
abbrev S8x1 : Shape := ⟨2, ![8, 1]⟩
abbrev S8x1024x4 : Shape := ⟨3, ![8, 1024, 4]⟩
abbrev S8x1024 : Shape := ⟨2, ![8, 1024]⟩
abbrev S8x4x1024 : Shape := ⟨3, ![8, 4, 1024]⟩
abbrev S8x1024x1 : Shape := ⟨3, ![8, 1024, 1]⟩
abbrev S8x1x1024 : Shape := ⟨3, ![8, 1, 1024]⟩
abbrev S1x1024x4 : Shape := ⟨3, ![1, 1024, 4]⟩
abbrev S1x4x1024 : Shape := ⟨3, ![1, 4, 1024]⟩
abbrev S1x1024x1 : Shape := ⟨3, ![1, 1024, 1]⟩
abbrev S1x1x1024 : Shape := ⟨3, ![1, 1, 1024]⟩
abbrev S1024x1024 : Shape := ⟨2, ![1024, 1024]⟩
abbrev S1024x4 : Shape := ⟨2, ![1024, 4]⟩
abbrev S4x1024 : Shape := ⟨2, ![4, 1024]⟩
abbrev S1024x1 : Shape := ⟨2, ![1024, 1]⟩
abbrev S1x1024 : Shape := ⟨2, ![1, 1024]⟩
abbrev S8x1x1000 : Shape := ⟨3, ![8, 1, 1000]⟩
abbrev S8x100 : Shape := ⟨2, ![8, 100]⟩
abbrev S8x100x1 : Shape := ⟨3, ![8, 100, 1]⟩
abbrev S8x100x4 : Shape := ⟨3, ![8, 100, 4]⟩
abbrev S8x4 : Shape := ⟨2, ![8, 4]⟩
abbrev S8x1x4 : Shape := ⟨3, ![8, 1, 4]⟩

abbrev nBuf : Space → Nat
  | .hbm => 182
  | .vmem => 20
  | .smem => 0
  | _ => 0

abbrev hbmTy0_0 (i : Nat) : BufTy := match i % 128 with
  | 0 => ⟨S8x8732x81, .f32⟩
  | 1 => ⟨S8x8732x4, .f32⟩
  | 2 => ⟨S8732x4, .f32⟩
  | 3 => ⟨S8x2, .i32⟩
  | 4 => ⟨S8x8732x80, .f32⟩
  | 5 => ⟨S8x8732x4, .f32⟩
  | 6 => ⟨S8x698560, .f32⟩
  | 7 => ⟨S8x1000, .f32⟩
  | 8 => ⟨S8x1000, .i32⟩
  | 9 => ⟨S_, .i32⟩
  | 10 => ⟨S_, .i32⟩
  | 11 => ⟨S8x1000, .i32⟩
  | 12 => ⟨S8x1000, .i32⟩
  | 13 => ⟨S8x1000, .i32⟩
  | 14 => ⟨S_, .i32⟩
  | 15 => ⟨S8x1000, .i32⟩
  | 16 => ⟨S8x1000, .i1⟩
  | 17 => ⟨S8x1000, .i32⟩
  | 18 => ⟨S8x1000, .i32⟩
  | 19 => ⟨S_, .i32⟩
  | 20 => ⟨S8x1000, .i32⟩
  | 21 => ⟨S8x1000, .i1⟩
  | 22 => ⟨S8x1000, .i1⟩
  | 23 => ⟨S_, .i32⟩
  | 24 => ⟨S8x1000, .i32⟩
  | 25 => ⟨S8x1000, .i32⟩
  | 26 => ⟨S8x1000, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S8x1000, .i32⟩
  | 34 => ⟨S8x1000, .i32⟩
  | 35 => ⟨S_, .i32⟩
  | 36 => ⟨S8x1000, .i32⟩
  | 37 => ⟨S8x1000, .i1⟩
  | 38 => ⟨S_, .i32⟩
  | 39 => ⟨S8x1000, .i32⟩
  | 40 => ⟨S8x1000, .i1⟩
  | 41 => ⟨S_, .i32⟩
  | 42 => ⟨S_, .i1⟩
  | 43 => ⟨S8x1000, .i1⟩
  | 44 => ⟨S8x1000, .i1⟩
  | 45 => ⟨S8x1000, .i1⟩
  | 46 => ⟨S8x1000, .i32⟩
  | 47 => ⟨S8x1000, .i32⟩
  | 48 => ⟨S8x1000, .i32⟩
  | 49 => ⟨S_, .i32⟩
  | 50 => ⟨S8x1000, .i32⟩
  | 51 => ⟨S8x1000, .i32⟩
  | 52 => ⟨S8x1000x1, .i32⟩
  | 53 => ⟨S_, .i32⟩
  | 54 => ⟨S8x1000x1, .i32⟩
  | 55 => ⟨S8x1000x1, .i1⟩
  | 56 => ⟨S_, .i32⟩
  | 57 => ⟨S8x1000x1, .i32⟩
  | 58 => ⟨S8x1000x1, .i32⟩
  | 59 => ⟨S8x1000x1, .i32⟩
  | 60 => ⟨S1, .i32⟩
  | 61 => ⟨S_, .i32⟩
  | 62 => ⟨S8x1000x1, .i32⟩
  | 63 => ⟨S8x1000x1, .i1⟩
  | 64 => ⟨S1x1x1, .i32⟩
  | 65 => ⟨S8x1000x1, .i32⟩
  | 66 => ⟨S8x1000x1, .i1⟩
  | 67 => ⟨S8x1000x1, .i1⟩
  | 68 => ⟨S_, .i1⟩
  | 69 => ⟨S8x1000, .i1⟩
  | 70 => ⟨S8x1000x4, .f32⟩
  | 71 => ⟨S8x1000x4, .i1⟩
  | 72 => ⟨S_, .f32⟩
  | 73 => ⟨S8x1000x4, .f32⟩
  | 74 => ⟨S8x1000x4, .f32⟩
  | 75 => ⟨S_, .f32⟩
  | 76 => ⟨S8x1000, .f32⟩
  | 77 => ⟨S8x1000, .i1⟩
  | 78 => ⟨S8x1000, .f32⟩
  | 79 => ⟨S_, .f32⟩
  | 80 => ⟨S8, .f32⟩
  | 81 => ⟨S8x1x1, .f32⟩
  | 82 => ⟨S8x1, .f32⟩
  | 83 => ⟨S_, .f32⟩
  | 84 => ⟨S8x1, .f32⟩
  | 85 => ⟨S8x1, .f32⟩
  | 86 => ⟨S8x1000, .f32⟩
  | 87 => ⟨S8x1000, .f32⟩
  | 88 => ⟨S8x1000x1, .f32⟩
  | 89 => ⟨S8x1000x4, .f32⟩
  | 90 => ⟨S8x1000x4, .f32⟩
  | 91 => ⟨S_, .i32⟩
  | 92 => ⟨S_, .f32⟩
  | 93 => ⟨S8x1024x4, .f32⟩
  | 94 => ⟨S8x1000, .f32⟩
  | 95 => ⟨S_, .i32⟩
  | 96 => ⟨S_, .f32⟩
  | 97 => ⟨S8x1024, .f32⟩
  | 98 => ⟨S8x4x1024, .f32⟩
  | 99 => ⟨S8x1024x1, .f32⟩
  | 100 => ⟨S8x1x1024, .f32⟩
  | 101 => ⟨S8x1x1024, .f32⟩
  | 102 => ⟨S8x1x1000, .f32⟩
  | 103 => ⟨S8x1000, .f32⟩
  | 104 => ⟨S_, .f32⟩
  | 105 => ⟨S8x1000, .f32⟩
  | 106 => ⟨S8x1000, .i1⟩
  | 107 => ⟨S8x1000, .i1⟩
  | 108 => ⟨S_, .f32⟩
  | 109 => ⟨S_, .f32⟩
  | 110 => ⟨S8x1000, .f32⟩
  | 111 => ⟨S8x1000, .f32⟩
  | 112 => ⟨S8x100, .f32⟩
  | 113 => ⟨S8x100, .i32⟩
  | 114 => ⟨S_, .f32⟩
  | 115 => ⟨S8x100, .f32⟩
  | 116 => ⟨S8x100, .i1⟩
  | 117 => ⟨S8x100x1, .i1⟩
  | 118 => ⟨S8x100x1, .i32⟩
  | 119 => ⟨S_, .i32⟩
  | 120 => ⟨S8x100x1, .i32⟩
  | 121 => ⟨S8x100x1, .i1⟩
  | 122 => ⟨S_, .i32⟩
  | 123 => ⟨S8x100x1, .i32⟩
  | 124 => ⟨S8x100x1, .i32⟩
  | 125 => ⟨S8x100x1, .i32⟩
  | 126 => ⟨S1, .i32⟩
  | 127 => ⟨S_, .i32⟩
  | _ => ⟨S8x8732x81, .f32⟩

abbrev hbmTy0_1 (i : Nat) : BufTy := match i % 128 with
  | 0 => ⟨S8x100x1, .i32⟩
  | 1 => ⟨S8x100x1, .i1⟩
  | 2 => ⟨S1x1x1, .i32⟩
  | 3 => ⟨S8x100x1, .i32⟩
  | 4 => ⟨S8x100x1, .i1⟩
  | 5 => ⟨S8x100x1, .i1⟩
  | 6 => ⟨S_, .i1⟩
  | 7 => ⟨S8x100, .i1⟩
  | 8 => ⟨S8x100x4, .f32⟩
  | 9 => ⟨S8x100x4, .i1⟩
  | 10 => ⟨S_, .f32⟩
  | 11 => ⟨S8x100x4, .f32⟩
  | 12 => ⟨S8x100x4, .f32⟩
  | 13 => ⟨S_, .f32⟩
  | 14 => ⟨S_, .f32⟩
  | 15 => ⟨S8x100x4, .i1⟩
  | 16 => ⟨S8x100x4, .f32⟩
  | 17 => ⟨S8x100x4, .f32⟩
  | 18 => ⟨S_, .f32⟩
  | 19 => ⟨S_, .f32⟩
  | 20 => ⟨S8x100, .f32⟩
  | 21 => ⟨S8x100, .f32⟩
  | 22 => ⟨S_, .i32⟩
  | 23 => ⟨S8x100, .i32⟩
  | 24 => ⟨S8x100, .i1⟩
  | 25 => ⟨S_, .i32⟩
  | 26 => ⟨S8x100, .i32⟩
  | 27 => ⟨S8x100, .i32⟩
  | 28 => ⟨S8x100, .i32⟩
  | 29 => ⟨S8x100x1, .i32⟩
  | 30 => ⟨S1, .i32⟩
  | 31 => ⟨S_, .i32⟩
  | 32 => ⟨S8x100x1, .i32⟩
  | 33 => ⟨S8x100x1, .i1⟩
  | 34 => ⟨S1x1x1, .i32⟩
  | 35 => ⟨S8x100x1, .i32⟩
  | 36 => ⟨S8x100x1, .i1⟩
  | 37 => ⟨S8x100x1, .i1⟩
  | 38 => ⟨S_, .i1⟩
  | 39 => ⟨S8x100, .i1⟩
  | 40 => ⟨S8x100, .i32⟩
  | 41 => ⟨S_, .i32⟩
  | 42 => ⟨S8x100, .i32⟩
  | 43 => ⟨S8x100, .i32⟩
  | 44 => ⟨S_, .i32⟩
  | 45 => ⟨S_, .i32⟩
  | 46 => ⟨S8x100, .i32⟩
  | 47 => ⟨S8x100, .i32⟩
  | 48 => ⟨S8x2, .i32⟩
  | 49 => ⟨S8x2, .f32⟩
  | 50 => ⟨S8x4, .f32⟩
  | 51 => ⟨S8x1x4, .f32⟩
  | 52 => ⟨S8x100x4, .f32⟩
  | 53 => ⟨S8x100x4, .f32⟩
  | _ => ⟨S8x8732x81, .f32⟩

abbrev hbmTy (i : Nat) : BufTy := match i / 128 with
  | 0 => hbmTy0_0 i
  | 1 => hbmTy0_1 i
  | _ => ⟨S8x8732x81, .f32⟩

abbrev bufTy : (tb : Table) → Fin (tcTables nBuf tb) → BufTy
  | .hbm, ⟨i, _⟩ => hbmTy i
  | .local _ .vmem, ⟨0, _⟩ => ⟨S1x8732x81, .f32⟩
  | .local _ .vmem, ⟨1, _⟩ => ⟨S1x8732x81, .f32⟩
  | .local _ .vmem, ⟨2, _⟩ => ⟨S1x8732x4, .f32⟩
  | .local _ .vmem, ⟨3, _⟩ => ⟨S1x8732x4, .f32⟩
  | .local _ .vmem, ⟨4, _⟩ => ⟨S8732x4, .f32⟩
  | .local _ .vmem, ⟨5, _⟩ => ⟨S1x8732x80, .f32⟩
  | .local _ .vmem, ⟨6, _⟩ => ⟨S1x8732x80, .f32⟩
  | .local _ .vmem, ⟨7, _⟩ => ⟨S1x8732x4, .f32⟩
  | .local _ .vmem, ⟨8, _⟩ => ⟨S1x8732x4, .f32⟩
  | .local _ .vmem, ⟨9, _⟩ => ⟨S1x1024x4, .f32⟩
  | .local _ .vmem, ⟨10, _⟩ => ⟨S1x1024x4, .f32⟩
  | .local _ .vmem, ⟨11, _⟩ => ⟨S1x4x1024, .f32⟩
  | .local _ .vmem, ⟨12, _⟩ => ⟨S1x4x1024, .f32⟩
  | .local _ .vmem, ⟨13, _⟩ => ⟨S1x1024x1, .f32⟩
  | .local _ .vmem, ⟨14, _⟩ => ⟨S1x1024x1, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1024x1024, .f32⟩
  | _, _ => ⟨S8x8732x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_values : Ref sig .tc := ⟨.hbm, 7, rfl⟩
abbrev main_indices : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v3 : Ref sig .tc := ⟨.hbm, 48, rfl⟩
abbrev main_c_1 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_c_2 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_c_3 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_cst : Ref sig .tc := ⟨.hbm, 72, rfl⟩
abbrev main_call2_v14 : Ref sig .tc := ⟨.hbm, 73, rfl⟩
abbrev main_v7 : Ref sig .tc := ⟨.hbm, 74, rfl⟩
abbrev main_cst : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_cst_2 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_cst_3 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_c_4 : Ref sig .tc := ⟨.hbm, 91, rfl⟩
abbrev main_call3_v0 : Ref sig .tc := ⟨.hbm, 92, rfl⟩
abbrev main_v21 : Ref sig .tc := ⟨.hbm, 93, rfl⟩
abbrev main_v22 : Ref sig .tc := ⟨.hbm, 94, rfl⟩
abbrev main_c_5 : Ref sig .tc := ⟨.hbm, 95, rfl⟩
abbrev main_call4_v0 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_cst_6 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_cst_7 : Ref sig .tc := ⟨.hbm, 108, rfl⟩
abbrev main_call5_v0 : Ref sig .tc := ⟨.hbm, 109, rfl⟩
abbrev main_call5_v1 : Ref sig .tc := ⟨.hbm, 110, rfl⟩
abbrev main_v33 : Ref sig .tc := ⟨.hbm, 111, rfl⟩
abbrev main_values_8 : Ref sig .tc := ⟨.hbm, 112, rfl⟩
abbrev main_indices_9 : Ref sig .tc := ⟨.hbm, 113, rfl⟩
abbrev main_cst_10 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_call6_c : Ref sig .tc := ⟨.hbm, 119, rfl⟩
abbrev main_call6_v0 : Ref sig .tc := ⟨.hbm, 120, rfl⟩
abbrev main_call6_v1 : Ref sig .tc := ⟨.hbm, 121, rfl⟩
abbrev main_call6_c_0 : Ref sig .tc := ⟨.hbm, 122, rfl⟩
abbrev main_call6_v2 : Ref sig .tc := ⟨.hbm, 123, rfl⟩
abbrev main_call6_v3 : Ref sig .tc := ⟨.hbm, 124, rfl⟩
abbrev main_call6_v4 : Ref sig .tc := ⟨.hbm, 125, rfl⟩
abbrev main_call6_c_1 : Ref sig .tc := ⟨.hbm, 126, rfl⟩
abbrev main_call6_c_2 : Ref sig .tc := ⟨.hbm, 127, rfl⟩
abbrev main_call6_v5 : Ref sig .tc := ⟨.hbm, 128, rfl⟩
abbrev main_call6_v6 : Ref sig .tc := ⟨.hbm, 129, rfl⟩
abbrev main_call6_v7 : Ref sig .tc := ⟨.hbm, 130, rfl⟩
abbrev main_call6_v8 : Ref sig .tc := ⟨.hbm, 131, rfl⟩
abbrev main_call6_v9 : Ref sig .tc := ⟨.hbm, 132, rfl⟩
abbrev main_call6_v10 : Ref sig .tc := ⟨.hbm, 133, rfl⟩
abbrev main_call6_c_3 : Ref sig .tc := ⟨.hbm, 134, rfl⟩
abbrev main_call6_v11 : Ref sig .tc := ⟨.hbm, 135, rfl⟩
abbrev main_call6_v12 : Ref sig .tc := ⟨.hbm, 136, rfl⟩
abbrev main_call6_v13 : Ref sig .tc := ⟨.hbm, 137, rfl⟩
abbrev main_call6_cst : Ref sig .tc := ⟨.hbm, 138, rfl⟩
abbrev main_call6_v14 : Ref sig .tc := ⟨.hbm, 139, rfl⟩
abbrev main_v38 : Ref sig .tc := ⟨.hbm, 140, rfl⟩
abbrev main_cst_11 : Ref sig .tc := ⟨.hbm, 141, rfl⟩
abbrev main_call7_v0 : Ref sig .tc := ⟨.hbm, 142, rfl⟩
abbrev main_call7_v1 : Ref sig .tc := ⟨.hbm, 143, rfl⟩
abbrev main_call7_v2 : Ref sig .tc := ⟨.hbm, 144, rfl⟩
abbrev main_v39 : Ref sig .tc := ⟨.hbm, 145, rfl⟩
abbrev main_cst_12 : Ref sig .tc := ⟨.hbm, 146, rfl⟩
abbrev main_call8_v0 : Ref sig .tc := ⟨.hbm, 147, rfl⟩
abbrev main_call8_v1 : Ref sig .tc := ⟨.hbm, 148, rfl⟩
abbrev main_v40 : Ref sig .tc := ⟨.hbm, 149, rfl⟩
abbrev main_call9_c : Ref sig .tc := ⟨.hbm, 150, rfl⟩
abbrev main_call9_v0 : Ref sig .tc := ⟨.hbm, 151, rfl⟩
abbrev main_call9_v1 : Ref sig .tc := ⟨.hbm, 152, rfl⟩
abbrev main_call9_c_0 : Ref sig .tc := ⟨.hbm, 153, rfl⟩
abbrev main_call9_v2 : Ref sig .tc := ⟨.hbm, 154, rfl⟩
abbrev main_call9_v3 : Ref sig .tc := ⟨.hbm, 155, rfl⟩
abbrev main_call9_v4 : Ref sig .tc := ⟨.hbm, 156, rfl⟩
abbrev main_call9_v5 : Ref sig .tc := ⟨.hbm, 157, rfl⟩
abbrev main_call9_c_1 : Ref sig .tc := ⟨.hbm, 158, rfl⟩
abbrev main_call9_c_2 : Ref sig .tc := ⟨.hbm, 159, rfl⟩
abbrev main_call9_v6 : Ref sig .tc := ⟨.hbm, 160, rfl⟩
abbrev main_call9_v7 : Ref sig .tc := ⟨.hbm, 161, rfl⟩
abbrev main_call9_v8 : Ref sig .tc := ⟨.hbm, 162, rfl⟩
abbrev main_call9_v9 : Ref sig .tc := ⟨.hbm, 163, rfl⟩
abbrev main_call9_v10 : Ref sig .tc := ⟨.hbm, 164, rfl⟩
abbrev main_call9_v11 : Ref sig .tc := ⟨.hbm, 165, rfl⟩
abbrev main_call9_c_3 : Ref sig .tc := ⟨.hbm, 166, rfl⟩
abbrev main_call9_v12 : Ref sig .tc := ⟨.hbm, 167, rfl⟩
abbrev main_call9_v13 : Ref sig .tc := ⟨.hbm, 168, rfl⟩
abbrev main_call9_c_4 : Ref sig .tc := ⟨.hbm, 169, rfl⟩
abbrev main_call9_v14 : Ref sig .tc := ⟨.hbm, 170, rfl⟩
abbrev main_v41 : Ref sig .tc := ⟨.hbm, 171, rfl⟩
abbrev main_c_13 : Ref sig .tc := ⟨.hbm, 172, rfl⟩
abbrev main_call10_v0 : Ref sig .tc := ⟨.hbm, 173, rfl⟩
abbrev main_call10_v1 : Ref sig .tc := ⟨.hbm, 174, rfl⟩
abbrev main_v42 : Ref sig .tc := ⟨.hbm, 175, rfl⟩
abbrev main_v43 : Ref sig .tc := ⟨.hbm, 176, rfl⟩
abbrev main_v44 : Ref sig .tc := ⟨.hbm, 177, rfl⟩
abbrev main_v45 : Ref sig .tc := ⟨.hbm, 178, rfl⟩
abbrev main_v46 : Ref sig .tc := ⟨.hbm, 179, rfl⟩
abbrev main_v47 : Ref sig .tc := ⟨.hbm, 180, rfl⟩
abbrev main_v48 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8732x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8732x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8732x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8732x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8732x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

@[reducible] def k1_t1_loop : Scf.Loop 32 :=
  let c0_i32 : BitVec 32 := 0#32
  let c1000_i32 : BitVec 32 := 1000#32
  let v64 : BitVec 32 := Scalar.addi c0_i32 c1000_i32
  let c1_i32 : BitVec 32 := 1#32
  ⟨c0_i32, v64, c1_i32⟩
def k1_off1 (k1_t1 : Fin k1_t1_loop.trips) : Fin 2 → Nat :=
  let c0_i32 : BitVec 32 := 0#32
  let c1_i32 : BitVec 32 := 1#32
  let arg7 : BitVec 32 := Scf.iv c0_i32 c1_i32 k1_t1
  let v69 : Index := Scalar.indexCast arg7
  let c0_23 : Index := 0#32
  ![v69.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S8x8732x81 : Shape := ⟨3, ![8, 8732, 81]⟩
abbrev S8x8732x4 : Shape := ⟨3, ![8, 8732, 4]⟩
abbrev S8732x4 : Shape := ⟨2, ![8732, 4]⟩
abbrev S8x2 : Shape := ⟨2, ![8, 2]⟩
abbrev S8732x2 : Shape := ⟨2, ![8732, 2]⟩
abbrev S8x8732x2 : Shape := ⟨3, ![8, 8732, 2]⟩
abbrev S_ : Shape := ⟨0, ![]⟩
abbrev S1x8732x2 : Shape := ⟨3, ![1, 8732, 2]⟩
abbrev S8x8732 : Shape := ⟨2, ![8, 8732]⟩
abbrev S8x8732x1 : Shape := ⟨3, ![8, 8732, 1]⟩
abbrev S8x8732x80 : Shape := ⟨3, ![8, 8732, 80]⟩
abbrev S8x698560 : Shape := ⟨2, ![8, 698560]⟩
abbrev S80 : Shape := ⟨1, ![80]⟩
abbrev S1x80 : Shape := ⟨2, ![1, 80]⟩
abbrev S8732x80 : Shape := ⟨2, ![8732, 80]⟩
abbrev S698560 : Shape := ⟨1, ![698560]⟩
abbrev S8x8732x1x4 : Shape := ⟨4, ![8, 8732, 1, 4]⟩
abbrev S8x8732x80x4 : Shape := ⟨4, ![8, 8732, 80, 4]⟩
abbrev S8x698560x4 : Shape := ⟨3, ![8, 698560, 4]⟩
abbrev S8x698560x1 : Shape := ⟨3, ![8, 698560, 1]⟩
abbrev S8x1000 : Shape := ⟨2, ![8, 1000]⟩
abbrev S8x1000x1 : Shape := ⟨3, ![8, 1000, 1]⟩
abbrev S1 : Shape := ⟨1, ![1]⟩
abbrev S1x1x1 : Shape := ⟨3, ![1, 1, 1]⟩
abbrev S8x1000x4 : Shape := ⟨3, ![8, 1000, 4]⟩
abbrev S8 : Shape := ⟨1, ![8]⟩
abbrev S8x1 : Shape := ⟨2, ![8, 1]⟩
abbrev S8x1000x2 : Shape := ⟨3, ![8, 1000, 2]⟩
abbrev S8x1000x1x2 : Shape := ⟨4, ![8, 1000, 1, 2]⟩
abbrev S8x1x1000x2 : Shape := ⟨4, ![8, 1, 1000, 2]⟩
abbrev S8x1000x1000x2 : Shape := ⟨4, ![8, 1000, 1000, 2]⟩
abbrev S8x1000x1000x1 : Shape := ⟨4, ![8, 1000, 1000, 1]⟩
abbrev S8x1000x1000 : Shape := ⟨3, ![8, 1000, 1000]⟩
abbrev S8x1x1000 : Shape := ⟨3, ![8, 1, 1000]⟩
abbrev S1000 : Shape := ⟨1, ![1000]⟩
abbrev S1x1000 : Shape := ⟨2, ![1, 1000]⟩
abbrev S8x100 : Shape := ⟨2, ![8, 100]⟩
abbrev S8x100x1 : Shape := ⟨3, ![8, 100, 1]⟩
abbrev S8x100x4 : Shape := ⟨3, ![8, 100, 4]⟩
abbrev S8x4 : Shape := ⟨2, ![8, 4]⟩
abbrev S8x1x4 : Shape := ⟨3, ![8, 1, 4]⟩

abbrev nBuf : Space → Nat
  | .hbm => 358
  | .vmem => 0
  | .smem => 0
  | _ => 0

abbrev hbmTy0_0 (i : Nat) : BufTy := match i % 128 with
  | 0 => ⟨S8x8732x81, .f32⟩
  | 1 => ⟨S8x8732x4, .f32⟩
  | 2 => ⟨S8732x4, .f32⟩
  | 3 => ⟨S8x2, .i32⟩
  | 4 => ⟨S8732x2, .f32⟩
  | 5 => ⟨S8x8732x2, .f32⟩
  | 6 => ⟨S_, .f32⟩
  | 7 => ⟨S8x8732x2, .f32⟩
  | 8 => ⟨S8x8732x2, .f32⟩
  | 9 => ⟨S8732x2, .f32⟩
  | 10 => ⟨S1x8732x2, .f32⟩
  | 11 => ⟨S8x8732x2, .f32⟩
  | 12 => ⟨S8x8732x2, .f32⟩
  | 13 => ⟨S1x8732x2, .f32⟩
  | 14 => ⟨S8x8732x2, .f32⟩
  | 15 => ⟨S8x8732x2, .f32⟩
  | 16 => ⟨S8732x2, .f32⟩
  | 17 => ⟨S8x8732x2, .f32⟩
  | 18 => ⟨S_, .f32⟩
  | 19 => ⟨S8x8732x2, .f32⟩
  | 20 => ⟨S8x8732x2, .f32⟩
  | 21 => ⟨S8x8732x2, .f32⟩
  | 22 => ⟨S1x8732x2, .f32⟩
  | 23 => ⟨S8x8732x2, .f32⟩
  | 24 => ⟨S8x8732x2, .f32⟩
  | 25 => ⟨S_, .f32⟩
  | 26 => ⟨S8x8732x2, .f32⟩
  | 27 => ⟨S8x8732x2, .f32⟩
  | 28 => ⟨S8x8732x2, .f32⟩
  | 29 => ⟨S_, .f32⟩
  | 30 => ⟨S8x8732x2, .f32⟩
  | 31 => ⟨S8x8732x2, .f32⟩
  | 32 => ⟨S8x8732x2, .f32⟩
  | 33 => ⟨S8x8732x4, .f32⟩
  | 34 => ⟨S_, .f32⟩
  | 35 => ⟨S8x8732, .f32⟩
  | 36 => ⟨S_, .f32⟩
  | 37 => ⟨S8x8732, .f32⟩
  | 38 => ⟨S8x8732, .f32⟩
  | 39 => ⟨S8x8732x1, .f32⟩
  | 40 => ⟨S8x8732x81, .f32⟩
  | 41 => ⟨S8x8732x81, .f32⟩
  | 42 => ⟨S8x8732x81, .f32⟩
  | 43 => ⟨S_, .f32⟩
  | 44 => ⟨S8x8732, .f32⟩
  | 45 => ⟨S8x8732x1, .f32⟩
  | 46 => ⟨S8x8732x81, .f32⟩
  | 47 => ⟨S8x8732x81, .f32⟩
  | 48 => ⟨S8x8732x80, .f32⟩
  | 49 => ⟨S8x698560, .f32⟩
  | 50 => ⟨S80, .i32⟩
  | 51 => ⟨S_, .i32⟩
  | 52 => ⟨S80, .i32⟩
  | 53 => ⟨S80, .i32⟩
  | 54 => ⟨S1x80, .i32⟩
  | 55 => ⟨S8732x80, .i32⟩
  | 56 => ⟨S698560, .i32⟩
  | 57 => ⟨S8x8732x1x4, .f32⟩
  | 58 => ⟨S8x8732x80x4, .f32⟩
  | 59 => ⟨S8x698560x4, .f32⟩
  | 60 => ⟨S8x698560x1, .f32⟩
  | 61 => ⟨S8x698560, .f32⟩
  | 62 => ⟨S8x698560x1, .f32⟩
  | 63 => ⟨S8x698560, .f32⟩
  | 64 => ⟨S8x698560, .f32⟩
  | 65 => ⟨S8x698560x1, .f32⟩
  | 66 => ⟨S8x698560, .f32⟩
  | 67 => ⟨S8x698560x1, .f32⟩
  | 68 => ⟨S8x698560, .f32⟩
  | 69 => ⟨S8x698560, .f32⟩
  | 70 => ⟨S_, .f32⟩
  | 71 => ⟨S8x698560, .f32⟩
  | 72 => ⟨S8x698560, .i1⟩
  | 73 => ⟨S_, .f32⟩
  | 74 => ⟨S8x698560, .f32⟩
  | 75 => ⟨S8x698560, .i1⟩
  | 76 => ⟨S8x698560, .i1⟩
  | 77 => ⟨S_, .f32⟩
  | 78 => ⟨S8x698560, .f32⟩
  | 79 => ⟨S8x698560, .i1⟩
  | 80 => ⟨S8x698560, .i1⟩
  | 81 => ⟨S_, .f32⟩
  | 82 => ⟨S_, .f32⟩
  | 83 => ⟨S8x698560, .f32⟩
  | 84 => ⟨S8x698560, .f32⟩
  | 85 => ⟨S8x1000, .f32⟩
  | 86 => ⟨S8x1000, .i32⟩
  | 87 => ⟨S8x1000x1, .i32⟩
  | 88 => ⟨S_, .i32⟩
  | 89 => ⟨S8x1000x1, .i32⟩
  | 90 => ⟨S8x1000x1, .i1⟩
  | 91 => ⟨S_, .i32⟩
  | 92 => ⟨S8x1000x1, .i32⟩
  | 93 => ⟨S8x1000x1, .i32⟩
  | 94 => ⟨S8x1000x1, .i32⟩
  | 95 => ⟨S1, .i32⟩
  | 96 => ⟨S_, .i32⟩
  | 97 => ⟨S8x1000x1, .i32⟩
  | 98 => ⟨S8x1000x1, .i1⟩
  | 99 => ⟨S1x1x1, .i32⟩
  | 100 => ⟨S8x1000x1, .i32⟩
  | 101 => ⟨S8x1000x1, .i1⟩
  | 102 => ⟨S8x1000x1, .i1⟩
  | 103 => ⟨S_, .i1⟩
  | 104 => ⟨S8x1000, .i1⟩
  | 105 => ⟨S8x1000x4, .f32⟩
  | 106 => ⟨S8x1000x4, .i1⟩
  | 107 => ⟨S_, .f32⟩
  | 108 => ⟨S8x1000x4, .f32⟩
  | 109 => ⟨S8x1000x4, .f32⟩
  | 110 => ⟨S_, .i32⟩
  | 111 => ⟨S8x1000, .i32⟩
  | 112 => ⟨S8x1000, .i1⟩
  | 113 => ⟨S_, .i32⟩
  | 114 => ⟨S8x1000, .i32⟩
  | 115 => ⟨S8x1000, .i32⟩
  | 116 => ⟨S8x1000, .i32⟩
  | 117 => ⟨S8x1000x1, .i32⟩
  | 118 => ⟨S1, .i32⟩
  | 119 => ⟨S_, .i32⟩
  | 120 => ⟨S8x1000x1, .i32⟩
  | 121 => ⟨S8x1000x1, .i1⟩
  | 122 => ⟨S1x1x1, .i32⟩
  | 123 => ⟨S8x1000x1, .i32⟩
  | 124 => ⟨S8x1000x1, .i1⟩
  | 125 => ⟨S8x1000x1, .i1⟩
  | 126 => ⟨S_, .i1⟩
  | 127 => ⟨S8x1000, .i1⟩
  | _ => ⟨S8x8732x81, .f32⟩

abbrev hbmTy0_1 (i : Nat) : BufTy := match i % 128 with
  | 0 => ⟨S8x1000, .f32⟩
  | 1 => ⟨S_, .f32⟩
  | 2 => ⟨S8x1000, .f32⟩
  | 3 => ⟨S8x1000, .f32⟩
  | 4 => ⟨S_, .i32⟩
  | 5 => ⟨S8x1000, .i32⟩
  | 6 => ⟨S8x1000, .i1⟩
  | 7 => ⟨S_, .i32⟩
  | 8 => ⟨S8x1000, .i32⟩
  | 9 => ⟨S8x1000, .i32⟩
  | 10 => ⟨S8x1000, .i32⟩
  | 11 => ⟨S8x1000x1, .i32⟩
  | 12 => ⟨S8x1000, .i32⟩
  | 13 => ⟨S_, .f32⟩
  | 14 => ⟨S8x1000, .f32⟩
  | 15 => ⟨S8x1000, .i1⟩
  | 16 => ⟨S8x1000, .f32⟩
  | 17 => ⟨S_, .f32⟩
  | 18 => ⟨S8, .f32⟩
  | 19 => ⟨S8x1, .f32⟩
  | 20 => ⟨S_, .f32⟩
  | 21 => ⟨S8x1, .f32⟩
  | 22 => ⟨S8x1, .f32⟩
  | 23 => ⟨S8x1000, .f32⟩
  | 24 => ⟨S8x1000, .f32⟩
  | 25 => ⟨S8x1000x1, .f32⟩
  | 26 => ⟨S8x1000x4, .f32⟩
  | 27 => ⟨S8x1000x4, .f32⟩
  | 28 => ⟨S8x1000x1, .f32⟩
  | 29 => ⟨S8x1000, .f32⟩
  | 30 => ⟨S8x1000x1, .f32⟩
  | 31 => ⟨S8x1000, .f32⟩
  | 32 => ⟨S8x1000, .f32⟩
  | 33 => ⟨S_, .i32⟩
  | 34 => ⟨S_, .f32⟩
  | 35 => ⟨S8x1000, .f32⟩
  | 36 => ⟨S8x1000, .f32⟩
  | 37 => ⟨S8x1000x1, .f32⟩
  | 38 => ⟨S8x1000, .f32⟩
  | 39 => ⟨S8x1000x1, .f32⟩
  | 40 => ⟨S8x1000, .f32⟩
  | 41 => ⟨S8x1000, .f32⟩
  | 42 => ⟨S_, .i32⟩
  | 43 => ⟨S_, .f32⟩
  | 44 => ⟨S8x1000, .f32⟩
  | 45 => ⟨S8x1000, .f32⟩
  | 46 => ⟨S8x1000, .f32⟩
  | 47 => ⟨S8x1000x2, .f32⟩
  | 48 => ⟨S8x1000x1x2, .f32⟩
  | 49 => ⟨S8x1000x2, .f32⟩
  | 50 => ⟨S8x1x1000x2, .f32⟩
  | 51 => ⟨S8x1000x1000x2, .f32⟩
  | 52 => ⟨S8x1000x1000x2, .f32⟩
  | 53 => ⟨S8x1000x1000x2, .f32⟩
  | 54 => ⟨S8x1000x2, .f32⟩
  | 55 => ⟨S8x1000x1x2, .f32⟩
  | 56 => ⟨S8x1000x2, .f32⟩
  | 57 => ⟨S8x1x1000x2, .f32⟩
  | 58 => ⟨S8x1000x1000x2, .f32⟩
  | 59 => ⟨S8x1000x1000x2, .f32⟩
  | 60 => ⟨S8x1000x1000x2, .f32⟩
  | 61 => ⟨S8x1000x1000x2, .f32⟩
  | 62 => ⟨S_, .i32⟩
  | 63 => ⟨S_, .f32⟩
  | 64 => ⟨S8x1000x1000x2, .f32⟩
  | 65 => ⟨S8x1000x1000x2, .f32⟩
  | 66 => ⟨S8x1000x1000x1, .f32⟩
  | 67 => ⟨S8x1000x1000, .f32⟩
  | 68 => ⟨S8x1000x1000x1, .f32⟩
  | 69 => ⟨S8x1000x1000, .f32⟩
  | 70 => ⟨S8x1000x1000, .f32⟩
  | 71 => ⟨S8x1000x1, .f32⟩
  | 72 => ⟨S8x1x1000, .f32⟩
  | 73 => ⟨S8x1000x1000, .f32⟩
  | 74 => ⟨S8x1000x1000, .f32⟩
  | 75 => ⟨S8x1000x1000, .f32⟩
  | 76 => ⟨S8x1000x1000, .f32⟩
  | 77 => ⟨S_, .f32⟩
  | 78 => ⟨S8x1000x1000, .f32⟩
  | 79 => ⟨S8x1000x1000, .f32⟩
  | 80 => ⟨S8x1000x1000, .f32⟩
  | 81 => ⟨S8x1000x1, .i1⟩
  | 82 => ⟨S8x1x1000, .i1⟩
  | 83 => ⟨S8x1000x1000, .i1⟩
  | 84 => ⟨S8x1000x1000, .i1⟩
  | 85 => ⟨S8x1000x1000, .i1⟩
  | 86 => ⟨S8x1000x1000, .f32⟩
  | 87 => ⟨S8x1000x1000, .f32⟩
  | 88 => ⟨S1000, .i32⟩
  | 89 => ⟨S_, .i32⟩
  | 90 => ⟨S_, .i32⟩
  | 91 => ⟨S8x1000x1000, .f32⟩
  | 92 => ⟨S1000, .i32⟩
  | 93 => ⟨S_, .i32⟩
  | 94 => ⟨S_, .i32⟩
  | 95 => ⟨S8x1000, .i1⟩
  | 96 => ⟨S_, .i32⟩
  | 97 => ⟨S_, .i1⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S8x1x1000, .f32⟩
  | 109 => ⟨S8x1000, .f32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S8x1, .i1⟩
  | 118 => ⟨S_, .f32⟩
  | 119 => ⟨S8x1000, .f32⟩
  | 120 => ⟨S8x1000, .i1⟩
  | 121 => ⟨S_, .i32⟩
  | 122 => ⟨S1000, .i32⟩
  | 123 => ⟨S1000, .i1⟩
  | 124 => ⟨S1x1000, .i1⟩
  | 125 => ⟨S8x1000, .i1⟩
  | 126 => ⟨S8x1000, .i1⟩
  | 127 => ⟨S8x1000, .i1⟩
  | _ => ⟨S8x8732x81, .f32⟩

abbrev hbmTy0_2 (i : Nat) : BufTy := match i % 128 with
  | 0 => ⟨S8x1000, .i1⟩
  | 1 => ⟨S8x1000, .i1⟩
  | 2 => ⟨S8x1000, .i1⟩
  | 3 => ⟨S_, .i32⟩
  | 4 => ⟨S_, .i32⟩
  | 5 => ⟨S8x1000, .i1⟩
  | 6 => ⟨S_, .f32⟩
  | 7 => ⟨S_, .f32⟩
  | 8 => ⟨S8x1000, .f32⟩
  | 9 => ⟨S8x1000, .f32⟩
  | 10 => ⟨S8x100, .f32⟩
  | 11 => ⟨S8x100, .i32⟩
  | 12 => ⟨S_, .f32⟩
  | 13 => ⟨S8x100, .f32⟩
  | 14 => ⟨S8x100, .i1⟩
  | 15 => ⟨S8x100x1, .i1⟩
  | 16 => ⟨S8x100x1, .i32⟩
  | 17 => ⟨S_, .i32⟩
  | 18 => ⟨S8x100x1, .i32⟩
  | 19 => ⟨S8x100x1, .i1⟩
  | 20 => ⟨S_, .i32⟩
  | 21 => ⟨S8x100x1, .i32⟩
  | 22 => ⟨S8x100x1, .i32⟩
  | 23 => ⟨S8x100x1, .i32⟩
  | 24 => ⟨S1, .i32⟩
  | 25 => ⟨S_, .i32⟩
  | 26 => ⟨S8x100x1, .i32⟩
  | 27 => ⟨S8x100x1, .i1⟩
  | 28 => ⟨S1x1x1, .i32⟩
  | 29 => ⟨S8x100x1, .i32⟩
  | 30 => ⟨S8x100x1, .i1⟩
  | 31 => ⟨S8x100x1, .i1⟩
  | 32 => ⟨S_, .i1⟩
  | 33 => ⟨S8x100, .i1⟩
  | 34 => ⟨S8x100x4, .f32⟩
  | 35 => ⟨S8x100x4, .i1⟩
  | 36 => ⟨S_, .f32⟩
  | 37 => ⟨S8x100x4, .f32⟩
  | 38 => ⟨S8x100x4, .f32⟩
  | 39 => ⟨S_, .f32⟩
  | 40 => ⟨S_, .f32⟩
  | 41 => ⟨S8x100x4, .i1⟩
  | 42 => ⟨S8x100x4, .f32⟩
  | 43 => ⟨S8x100x4, .f32⟩
  | 44 => ⟨S_, .i32⟩
  | 45 => ⟨S8x100, .i32⟩
  | 46 => ⟨S8x100, .i1⟩
  | 47 => ⟨S_, .i32⟩
  | 48 => ⟨S8x100, .i32⟩
  | 49 => ⟨S8x100, .i32⟩
  | 50 => ⟨S8x100, .i32⟩
  | 51 => ⟨S8x100x1, .i32⟩
  | 52 => ⟨S1, .i32⟩
  | 53 => ⟨S_, .i32⟩
  | 54 => ⟨S8x100x1, .i32⟩
  | 55 => ⟨S8x100x1, .i1⟩
  | 56 => ⟨S1x1x1, .i32⟩
  | 57 => ⟨S8x100x1, .i32⟩
  | 58 => ⟨S8x100x1, .i1⟩
  | 59 => ⟨S8x100x1, .i1⟩
  | 60 => ⟨S_, .i1⟩
  | 61 => ⟨S8x100, .i1⟩
  | 62 => ⟨S8x100, .f32⟩
  | 63 => ⟨S_, .f32⟩
  | 64 => ⟨S8x100, .f32⟩
  | 65 => ⟨S8x100, .f32⟩
  | 66 => ⟨S_, .f32⟩
  | 67 => ⟨S_, .f32⟩
  | 68 => ⟨S8x100, .f32⟩
  | 69 => ⟨S8x100, .f32⟩
  | 70 => ⟨S_, .i32⟩
  | 71 => ⟨S8x100, .i32⟩
  | 72 => ⟨S8x100, .i1⟩
  | 73 => ⟨S_, .i32⟩
  | 74 => ⟨S8x100, .i32⟩
  | 75 => ⟨S8x100, .i32⟩
  | 76 => ⟨S8x100, .i32⟩
  | 77 => ⟨S8x100x1, .i32⟩
  | 78 => ⟨S1, .i32⟩
  | 79 => ⟨S_, .i32⟩
  | 80 => ⟨S8x100x1, .i32⟩
  | 81 => ⟨S8x100x1, .i1⟩
  | 82 => ⟨S1x1x1, .i32⟩
  | 83 => ⟨S8x100x1, .i32⟩
  | 84 => ⟨S8x100x1, .i1⟩
  | 85 => ⟨S8x100x1, .i1⟩
  | 86 => ⟨S_, .i1⟩
  | 87 => ⟨S8x100, .i1⟩
  | 88 => ⟨S8x100, .i32⟩
  | 89 => ⟨S_, .i32⟩
  | 90 => ⟨S8x100, .i32⟩
  | 91 => ⟨S8x100, .i32⟩
  | 92 => ⟨S_, .i32⟩
  | 93 => ⟨S_, .i32⟩
  | 94 => ⟨S8x100, .i32⟩
  | 95 => ⟨S8x100, .i32⟩
  | 96 => ⟨S8x2, .i32⟩
  | 97 => ⟨S8x2, .f32⟩
  | 98 => ⟨S8x4, .f32⟩
  | 99 => ⟨S8x1x4, .f32⟩
  | 100 => ⟨S8x100x4, .f32⟩
  | 101 => ⟨S8x100x4, .f32⟩
  | _ => ⟨S8x8732x81, .f32⟩

abbrev hbmTy (i : Nat) : BufTy := match i / 128 with
  | 0 => hbmTy0_0 i
  | 1 => hbmTy0_1 i
  | 2 => hbmTy0_2 i
  | _ => ⟨S8x8732x81, .f32⟩

abbrev bufTy : (tb : Table) → Fin (tcTables nBuf tb) → BufTy
  | .hbm, ⟨i, _⟩ => hbmTy i
  | _, _ => ⟨S8x8732x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_call0_v0 : Ref sig .tc := ⟨.hbm, 82, rfl⟩
abbrev main_call0_v1 : Ref sig .tc := ⟨.hbm, 83, rfl⟩
abbrev main_v66 : Ref sig .tc := ⟨.hbm, 84, rfl⟩
abbrev main_values : Ref sig .tc := ⟨.hbm, 85, rfl⟩
abbrev main_indices : Ref sig .tc := ⟨.hbm, 86, rfl⟩
abbrev main_v67 : Ref sig .tc := ⟨.hbm, 87, rfl⟩
abbrev main_call1_c : Ref sig .tc := ⟨.hbm, 88, rfl⟩
abbrev main_call1_v0 : Ref sig .tc := ⟨.hbm, 89, rfl⟩
abbrev main_call1_v1 : Ref sig .tc := ⟨.hbm, 90, rfl⟩
abbrev main_call1_c_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_c_1 : Ref sig .tc := ⟨.hbm, 95, rfl⟩
abbrev main_call1_c_2 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_call1_c_3 : Ref sig .tc := ⟨.hbm, 103, rfl⟩
abbrev main_call1_v11 : Ref sig .tc := ⟨.hbm, 104, rfl⟩
abbrev main_call1_v12 : Ref sig .tc := ⟨.hbm, 105, rfl⟩
abbrev main_call1_v13 : Ref sig .tc := ⟨.hbm, 106, rfl⟩
abbrev main_call1_cst : Ref sig .tc := ⟨.hbm, 107, rfl⟩
abbrev main_call1_v14 : Ref sig .tc := ⟨.hbm, 108, rfl⟩
abbrev main_v68 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_cst : Ref sig .tc := ⟨.hbm, 129, rfl⟩
abbrev main_call2_v14 : Ref sig .tc := ⟨.hbm, 130, rfl⟩
abbrev main_v69 : Ref sig .tc := ⟨.hbm, 131, rfl⟩
abbrev main_c_10 : Ref sig .tc := ⟨.hbm, 132, rfl⟩
abbrev main_v70 : Ref sig .tc := ⟨.hbm, 133, rfl⟩
abbrev main_v71 : Ref sig .tc := ⟨.hbm, 134, rfl⟩
abbrev main_c_11 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_cst_12 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_cst_13 : Ref sig .tc := ⟨.hbm, 145, rfl⟩
abbrev main_v80 : Ref sig .tc := ⟨.hbm, 146, rfl⟩
abbrev main_v81 : Ref sig .tc := ⟨.hbm, 147, rfl⟩
abbrev main_cst_14 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_c_15 : Ref sig .tc := ⟨.hbm, 161, rfl⟩
abbrev main_call3_v0 : Ref sig .tc := ⟨.hbm, 162, rfl⟩
abbrev main_call3_v1 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_c_16 : Ref sig .tc := ⟨.hbm, 170, rfl⟩
abbrev main_call4_v0 : Ref sig .tc := ⟨.hbm, 171, rfl⟩
abbrev main_call4_v1 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_c_17 : Ref sig .tc := ⟨.hbm, 190, rfl⟩
abbrev main_call5_v0 : Ref sig .tc := ⟨.hbm, 191, rfl⟩
abbrev main_call5_v1 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_cst_18 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_c_19 : Ref sig .tc := ⟨.hbm, 217, rfl⟩
abbrev main_c_20 : Ref sig .tc := ⟨.hbm, 218, rfl⟩
abbrev main_v140_0 : Ref sig .tc := ⟨.hbm, 219, rfl⟩
abbrev main_v140_1 : Ref sig .tc := ⟨.hbm, 220, rfl⟩
abbrev main_v140_2 : Ref sig .tc := ⟨.hbm, 221, rfl⟩
abbrev main_v140_3 : Ref sig .tc := ⟨.hbm, 222, rfl⟩
abbrev main_v140_4 : Ref sig .tc := ⟨.hbm, 223, rfl⟩
abbrev main_while0c_c_32 : Ref sig .tc := ⟨.hbm, 224, rfl⟩
abbrev main_while0c_v159 : Ref sig .tc := ⟨.hbm, 225, rfl⟩
abbrev main_while0b_c_32 : Ref sig .tc := ⟨.hbm, 226, rfl⟩
abbrev main_while0b_v159 : Ref sig .tc := ⟨.hbm, 227, rfl⟩
abbrev main_while0b_call6_c : Ref sig .tc := ⟨.hbm, 228, rfl⟩
abbrev main_while0b_call6_v0 : Ref sig .tc := ⟨.hbm, 229, rfl⟩
abbrev main_while0b_call6_v1 : Ref sig .tc := ⟨.hbm, 230, rfl⟩
abbrev main_while0b_call6_c_0 : Ref sig .tc := ⟨.hbm, 231, rfl⟩
abbrev main_while0b_call6_v2 : Ref sig .tc := ⟨.hbm, 232, rfl⟩
abbrev main_while0b_call6_v3 : Ref sig .tc := ⟨.hbm, 233, rfl⟩
abbrev main_while0b_call6_c_1 : Ref sig .tc := ⟨.hbm, 234, rfl⟩
abbrev main_while0b_call6_c_2 : Ref sig .tc := ⟨.hbm, 235, rfl⟩
abbrev main_while0b_call6_v4 : Ref sig .tc := ⟨.hbm, 236, rfl⟩
abbrev main_while0b_v160 : Ref sig .tc := ⟨.hbm, 237, rfl⟩
abbrev main_while0b_call7_c : Ref sig .tc := ⟨.hbm, 238, rfl⟩
abbrev main_while0b_call7_v0 : Ref sig .tc := ⟨.hbm, 239, rfl⟩
abbrev main_while0b_call7_v1 : Ref sig .tc := ⟨.hbm, 240, rfl⟩
abbrev main_while0b_call7_c_0 : Ref sig .tc := ⟨.hbm, 241, rfl⟩
abbrev main_while0b_call7_v2 : Ref sig .tc := ⟨.hbm, 242, rfl⟩
abbrev main_while0b_call7_v3 : Ref sig .tc := ⟨.hbm, 243, rfl⟩
abbrev main_while0b_call7_c_1 : Ref sig .tc := ⟨.hbm, 244, rfl⟩
abbrev main_while0b_v161 : Ref sig .tc := ⟨.hbm, 245, rfl⟩
abbrev main_while0b_cst_33 : Ref sig .tc := ⟨.hbm, 246, rfl⟩
abbrev main_while0b_v162 : Ref sig .tc := ⟨.hbm, 247, rfl⟩
abbrev main_while0b_v163 : Ref sig .tc := ⟨.hbm, 248, rfl⟩
abbrev main_while0b_v164 : Ref sig .tc := ⟨.hbm, 249, rfl⟩
abbrev main_while0b_v165 : Ref sig .tc := ⟨.hbm, 250, rfl⟩
abbrev main_while0b_v166 : Ref sig .tc := ⟨.hbm, 251, rfl⟩
abbrev main_while0b_v167 : Ref sig .tc := ⟨.hbm, 252, rfl⟩
abbrev main_while0b_v168 : Ref sig .tc := ⟨.hbm, 253, rfl⟩
abbrev main_while0b_v169 : Ref sig .tc := ⟨.hbm, 254, rfl⟩
abbrev main_while0b_v170 : Ref sig .tc := ⟨.hbm, 255, rfl⟩
abbrev main_while0b_v171 : Ref sig .tc := ⟨.hbm, 256, rfl⟩
abbrev main_while0b_v172 : Ref sig .tc := ⟨.hbm, 257, rfl⟩
abbrev main_while0b_v173 : Ref sig .tc := ⟨.hbm, 258, rfl⟩
abbrev main_while0b_c_34 : Ref sig .tc := ⟨.hbm, 259, rfl⟩
abbrev main_while0b_v174 : Ref sig .tc := ⟨.hbm, 260, rfl⟩
abbrev main_v141 : Ref sig .tc := ⟨.hbm, 261, rfl⟩
abbrev main_cst_21 : Ref sig .tc := ⟨.hbm, 262, rfl⟩
abbrev main_call8_v0 : Ref sig .tc := ⟨.hbm, 263, rfl⟩
abbrev main_call8_v1 : Ref sig .tc := ⟨.hbm, 264, rfl⟩
abbrev main_v142 : Ref sig .tc := ⟨.hbm, 265, rfl⟩
abbrev main_values_22 : Ref sig .tc := ⟨.hbm, 266, rfl⟩
abbrev main_indices_23 : Ref sig .tc := ⟨.hbm, 267, rfl⟩
abbrev main_cst_24 : Ref sig .tc := ⟨.hbm, 268, rfl⟩
abbrev main_v143 : Ref sig .tc := ⟨.hbm, 269, rfl⟩
abbrev main_v144 : Ref sig .tc := ⟨.hbm, 270, rfl⟩
abbrev main_v145 : Ref sig .tc := ⟨.hbm, 271, rfl⟩
abbrev main_v146 : Ref sig .tc := ⟨.hbm, 272, rfl⟩
abbrev main_call9_c : Ref sig .tc := ⟨.hbm, 273, rfl⟩
abbrev main_call9_v0 : Ref sig .tc := ⟨.hbm, 274, rfl⟩
abbrev main_call9_v1 : Ref sig .tc := ⟨.hbm, 275, rfl⟩
abbrev main_call9_c_0 : Ref sig .tc := ⟨.hbm, 276, rfl⟩
abbrev main_call9_v2 : Ref sig .tc := ⟨.hbm, 277, rfl⟩
abbrev main_call9_v3 : Ref sig .tc := ⟨.hbm, 278, rfl⟩
abbrev main_call9_v4 : Ref sig .tc := ⟨.hbm, 279, rfl⟩
abbrev main_call9_c_1 : Ref sig .tc := ⟨.hbm, 280, rfl⟩
abbrev main_call9_c_2 : Ref sig .tc := ⟨.hbm, 281, rfl⟩
abbrev main_call9_v5 : Ref sig .tc := ⟨.hbm, 282, rfl⟩
abbrev main_call9_v6 : Ref sig .tc := ⟨.hbm, 283, rfl⟩
abbrev main_call9_v7 : Ref sig .tc := ⟨.hbm, 284, rfl⟩
abbrev main_call9_v8 : Ref sig .tc := ⟨.hbm, 285, rfl⟩
abbrev main_call9_v9 : Ref sig .tc := ⟨.hbm, 286, rfl⟩
abbrev main_call9_v10 : Ref sig .tc := ⟨.hbm, 287, rfl⟩
abbrev main_call9_c_3 : Ref sig .tc := ⟨.hbm, 288, rfl⟩
abbrev main_call9_v11 : Ref sig .tc := ⟨.hbm, 289, rfl⟩
abbrev main_call9_v12 : Ref sig .tc := ⟨.hbm, 290, rfl⟩
abbrev main_call9_v13 : Ref sig .tc := ⟨.hbm, 291, rfl⟩
abbrev main_call9_cst : Ref sig .tc := ⟨.hbm, 292, rfl⟩
abbrev main_call9_v14 : Ref sig .tc := ⟨.hbm, 293, rfl⟩
abbrev main_v147 : Ref sig .tc := ⟨.hbm, 294, rfl⟩
abbrev main_cst_25 : Ref sig .tc := ⟨.hbm, 295, rfl⟩
abbrev main_call10_v0 : Ref sig .tc := ⟨.hbm, 296, rfl⟩
abbrev main_call10_v1 : Ref sig .tc := ⟨.hbm, 297, rfl⟩
abbrev main_call10_v2 : Ref sig .tc := ⟨.hbm, 298, rfl⟩
abbrev main_v148 : Ref sig .tc := ⟨.hbm, 299, rfl⟩
abbrev main_call11_c : Ref sig .tc := ⟨.hbm, 300, rfl⟩
abbrev main_call11_v0 : Ref sig .tc := ⟨.hbm, 301, rfl⟩
abbrev main_call11_v1 : Ref sig .tc := ⟨.hbm, 302, rfl⟩
abbrev main_call11_c_0 : Ref sig .tc := ⟨.hbm, 303, rfl⟩
abbrev main_call11_v2 : Ref sig .tc := ⟨.hbm, 304, rfl⟩
abbrev main_call11_v3 : Ref sig .tc := ⟨.hbm, 305, rfl⟩
abbrev main_call11_v4 : Ref sig .tc := ⟨.hbm, 306, rfl⟩
abbrev main_call11_v5 : Ref sig .tc := ⟨.hbm, 307, rfl⟩
abbrev main_call11_c_1 : Ref sig .tc := ⟨.hbm, 308, rfl⟩
abbrev main_call11_c_2 : Ref sig .tc := ⟨.hbm, 309, rfl⟩
abbrev main_call11_v6 : Ref sig .tc := ⟨.hbm, 310, rfl⟩
abbrev main_call11_v7 : Ref sig .tc := ⟨.hbm, 311, rfl⟩
abbrev main_call11_v8 : Ref sig .tc := ⟨.hbm, 312, rfl⟩
abbrev main_call11_v9 : Ref sig .tc := ⟨.hbm, 313, rfl⟩
abbrev main_call11_v10 : Ref sig .tc := ⟨.hbm, 314, rfl⟩
abbrev main_call11_v11 : Ref sig .tc := ⟨.hbm, 315, rfl⟩
abbrev main_call11_c_3 : Ref sig .tc := ⟨.hbm, 316, rfl⟩
abbrev main_call11_v12 : Ref sig .tc := ⟨.hbm, 317, rfl⟩
abbrev main_call11_v13 : Ref sig .tc := ⟨.hbm, 318, rfl⟩
abbrev main_call11_cst : Ref sig .tc := ⟨.hbm, 319, rfl⟩
abbrev main_call11_v14 : Ref sig .tc := ⟨.hbm, 320, rfl⟩
abbrev main_v149 : Ref sig .tc := ⟨.hbm, 321, rfl⟩
abbrev main_cst_26 : Ref sig .tc := ⟨.hbm, 322, rfl⟩
abbrev main_call12_v0 : Ref sig .tc := ⟨.hbm, 323, rfl⟩
abbrev main_call12_v1 : Ref sig .tc := ⟨.hbm, 324, rfl⟩
abbrev main_v150 : Ref sig .tc := ⟨.hbm, 325, rfl⟩
abbrev main_call13_c : Ref sig .tc := ⟨.hbm, 326, rfl⟩
abbrev main_call13_v0 : Ref sig .tc := ⟨.hbm, 327, rfl⟩
abbrev main_call13_v1 : Ref sig .tc := ⟨.hbm, 328, rfl⟩
abbrev main_call13_c_0 : Ref sig .tc := ⟨.hbm, 329, rfl⟩
abbrev main_call13_v2 : Ref sig .tc := ⟨.hbm, 330, rfl⟩
abbrev main_call13_v3 : Ref sig .tc := ⟨.hbm, 331, rfl⟩
abbrev main_call13_v4 : Ref sig .tc := ⟨.hbm, 332, rfl⟩
abbrev main_call13_v5 : Ref sig .tc := ⟨.hbm, 333, rfl⟩
abbrev main_call13_c_1 : Ref sig .tc := ⟨.hbm, 334, rfl⟩
abbrev main_call13_c_2 : Ref sig .tc := ⟨.hbm, 335, rfl⟩
abbrev main_call13_v6 : Ref sig .tc := ⟨.hbm, 336, rfl⟩
abbrev main_call13_v7 : Ref sig .tc := ⟨.hbm, 337, rfl⟩
abbrev main_call13_v8 : Ref sig .tc := ⟨.hbm, 338, rfl⟩
abbrev main_call13_v9 : Ref sig .tc := ⟨.hbm, 339, rfl⟩
abbrev main_call13_v10 : Ref sig .tc := ⟨.hbm, 340, rfl⟩
abbrev main_call13_v11 : Ref sig .tc := ⟨.hbm, 341, rfl⟩
abbrev main_call13_c_3 : Ref sig .tc := ⟨.hbm, 342, rfl⟩
abbrev main_call13_v12 : Ref sig .tc := ⟨.hbm, 343, rfl⟩
abbrev main_call13_v13 : Ref sig .tc := ⟨.hbm, 344, rfl⟩
abbrev main_call13_c_4 : Ref sig .tc := ⟨.hbm, 345, rfl⟩
abbrev main_call13_v14 : Ref sig .tc := ⟨.hbm, 346, rfl⟩
abbrev main_v151 : Ref sig .tc := ⟨.hbm, 347, rfl⟩
abbrev main_c_27 : Ref sig .tc := ⟨.hbm, 348, rfl⟩
abbrev main_call14_v0 : Ref sig .tc := ⟨.hbm, 349, rfl⟩
abbrev main_call14_v1 : Ref sig .tc := ⟨.hbm, 350, rfl⟩
abbrev main_v152 : Ref sig .tc := ⟨.hbm, 351, rfl⟩
abbrev main_v153 : Ref sig .tc := ⟨.hbm, 352, rfl⟩
abbrev main_v154 : Ref sig .tc := ⟨.hbm, 353, rfl⟩
abbrev main_v155 : Ref sig .tc := ⟨.hbm, 354, rfl⟩
abbrev main_v156 : Ref sig .tc := ⟨.hbm, 355, rfl⟩
abbrev main_v157 : Ref sig .tc := ⟨.hbm, 356, rfl⟩
abbrev main_v158 : Ref sig .tc := ⟨.hbm, 357, rfl⟩

abbrev nD : Nat := 1
abbrev τ : Topo := Topo.v7x

variable {F : FTy → Type} [FloatOps F]

abbrev main_while0_count : Scf.Loop 32 := ⟨0#32, 1000#32, 1#32⟩
-- ==== Proof.RRun.lean ====
/- The reference's run: what every buffer holds at each boundary between its stretches, the results its run ends at, and
   its frame. -/
module

public import proofs.«01_k».proof.Proof.Gen.ReferenceIdeal.Run
public import Idealize.ShloMosaic.Lib.Quiescent

@[expose] public section

set_option maxRecDepth 16384

noncomputable section

namespace Cert.ReferenceIdeal.Value

open Idealize.ShloMosaic Idealize.ShloMosaic.TcCoe
open Idealize.SL.Sem Idealize.ShloMosaic.StableHlo Cert.ReferenceIdeal.Gen

variable {F : FTy → Type} [FloatOps F]
variable (m : (ℓ : Loc nD τ sig) → Buf (Elt F) ℓ) (ρ : Dev nD → PrngReg) (c : Dev nD)

/-- Every buffer's contents as launched. -/
def U0 : Valuation τ sig (Elt F) := launchContents m c
/-- Every buffer's contents after the reference's first 1 stretches. -/
def U1 : Valuation τ sig (Elt F) := after hostOps0 (U0 m c)
/-- Every buffer's contents after the reference's first 2 stretches. -/
def U2 : Valuation τ sig (Elt F) := after hostOps0_1 (U1 m c)
/-- Every buffer's contents after the reference's first 3 stretches. -/
def U3 : Valuation τ sig (Elt F) := after hostOps0_2 (U2 m c)
/-- Every buffer's contents after the reference's first 4 stretches. -/
def U4 : Valuation τ sig (Elt F) := after hostOps0_3 (U3 m c)
/-- Every buffer's contents after the reference's first 5 stretches. -/
def U5 : Valuation τ sig (Elt F) := after hostOps0_4 (U4 m c)
/-- Every buffer's contents after the reference's first 6 stretches. -/
def U6 : Valuation τ sig (Elt F) := after hostOps0_5 (U5 m c)
/-- Every buffer's contents after the reference's first 7 stretches. -/
def U7 : Valuation τ sig (Elt F) := after hostOps0_6 (U6 m c)
/-- Every buffer's contents after the reference's first 8 stretches. -/
def U8 : Valuation τ sig (Elt F) := after hostOps0_7 (U7 m c)
/-- Every buffer's contents after the reference's first 9 stretches. -/
def U9 : Valuation τ sig (Elt F) := after hostOps0_8 (U8 m c)
/-- Every buffer's contents after the reference's first 10 stretches. -/
def U10 : Valuation τ sig (Elt F) := after hostOps0_9 (U9 m c)
/-- Every buffer's contents after the reference's first 11 stretches. -/
def U11 : Valuation τ sig (Elt F) := after hostOps0_10 (U10 m c)
/-- Every buffer's contents after the reference's first 12 stretches. -/
def U12 : Valuation τ sig (Elt F) := after hostOps0_11 (U11 m c)
/-- Stretch 0 leaves what it does not write. -/
theorem U1_of (r : Ref sig .tc) (h : r ∉ hostOps0_W) : U1 m c (Proc.devRef .tc r) = U0 m c (Proc.devRef .tc r) :=
  after_of_writes_sub hostOps0 _ hostOps0_writes h
/-- Stretch 1 leaves what it does not write. -/
theorem U2_of (r : Ref sig .tc) (h : r ∉ hostOps0_1_W) : U2 m c (Proc.devRef .tc r) = U1 m c (Proc.devRef .tc r) :=
  after_of_writes_sub hostOps0_1 _ hostOps0_1_writes h
/-- Stretch 2 leaves what it does not write. -/
theorem U3_of (r : Ref sig .tc) (h : r ∉ hostOps0_2_W) : U3 m c (Proc.devRef .tc r) = U2 m c (Proc.devRef .tc r) :=
  after_of_writes_sub hostOps0_2 _ hostOps0_2_writes h
/-- Stretch 3 leaves what it does not write. -/
theorem U4_of (r : Ref sig .tc) (h : r ∉ hostOps0_3_W) : U4 m c (Proc.devRef .tc r) = U3 m c (Proc.devRef .tc r) :=
  after_of_writes_sub hostOps0_3 _ hostOps0_3_writes h
/-- Stretch 4 leaves what it does not write. -/
theorem U5_of (r : Ref sig .tc) (h : r ∉ hostOps0_4_W) : U5 m c (Proc.devRef .tc r) = U4 m c (Proc.devRef .tc r) :=
  after_of_writes_sub hostOps0_4 _ hostOps0_4_writes h
/-- Stretch 5 leaves what it does not write. -/
theorem U6_of (r : Ref sig .tc) (h : r ∉ hostOps0_5_W) : U6 m c (Proc.devRef .tc r) = U5 m c (Proc.devRef .tc r) :=
  after_of_writes_sub hostOps0_5 _ hostOps0_5_writes h
/-- Stretch 6 leaves what it does not write. -/
theorem U7_of (r : Ref sig .tc) (h : r ∉ hostOps0_6_W) : U7 m c (Proc.devRef .tc r) = U6 m c (Proc.devRef .tc r) :=
  after_of_writes_sub hostOps0_6 _ hostOps0_6_writes h
/-- Stretch 7 leaves what it does not write. -/
theorem U8_of (r : Ref sig .tc) (h : r ∉ hostOps0_7_W) : U8 m c (Proc.devRef .tc r) = U7 m c (Proc.devRef .tc r) :=
  after_of_writes_sub hostOps0_7 _ hostOps0_7_writes h
/-- Stretch 8 leaves what it does not write. -/
theorem U9_of (r : Ref sig .tc) (h : r ∉ hostOps0_8_W) : U9 m c (Proc.devRef .tc r) = U8 m c (Proc.devRef .tc r) :=
  after_of_writes_sub hostOps0_8 _ hostOps0_8_writes h
/-- Stretch 9 leaves what it does not write. -/
theorem U10_of (r : Ref sig .tc) (h : r ∉ hostOps0_9_W) : U10 m c (Proc.devRef .tc r) = U9 m c (Proc.devRef .tc r) :=
  after_of_writes_sub hostOps0_9 _ hostOps0_9_writes h
/-- Stretch 10 leaves what it does not write. -/
theorem U11_of (r : Ref sig .tc) (h : r ∉ hostOps0_10_W) : U11 m c (Proc.devRef .tc r) = U10 m c (Proc.devRef .tc r) :=
  after_of_writes_sub hostOps0_10 _ hostOps0_10_writes h
/-- Stretch 11 leaves what it does not write. -/
theorem U12_of (r : Ref sig .tc) (h : r ∉ hostOps0_11_W) : U12 m c (Proc.devRef .tc r) = U11 m c (Proc.devRef .tc r) :=
  after_of_writes_sub hostOps0_11 _ hostOps0_11_writes h
/-- The loop's entry. -/
theorem U12_entry : U12 m c = entryContents preI m c := by
  unfold U12 U11 U10 U9 U8 U7 U6 U5 U4 U3 U2 U1 U0
  simp only [entryContents, preI, afterL_cons, afterL_nil]
/-- Every buffer's contents when the loop has ended. -/
def U13 : Valuation τ sig (Elt F) := after condOps (atTrip condOps bodyI (entryContents preI m) 1000 c)
/-- Every buffer's contents after 1 of the stretches behind the loop. -/
def U14 : Valuation τ sig (Elt F) := after hostOps0_12 (U13 m c)
/-- Every buffer's contents after 2 of the stretches behind the loop. -/
def U15 : Valuation τ sig (Elt F) := after hostOps0_13 (U14 m c)
/-- Every buffer's contents after 3 of the stretches behind the loop. -/
def U16 : Valuation τ sig (Elt F) := after hostOps0_14 (U15 m c)
/-- Every buffer's contents after 4 of the stretches behind the loop. -/
def U17 : Valuation τ sig (Elt F) := after hostOps0_15 (U16 m c)
/-- Every buffer's contents after 5 of the stretches behind the loop. -/
def U18 : Valuation τ sig (Elt F) := after hostOps0_16 (U17 m c)
/-- Every buffer's contents after 6 of the stretches behind the loop. -/
def U19 : Valuation τ sig (Elt F) := after hostOps0_17 (U18 m c)
/-- Every buffer's contents after 7 of the stretches behind the loop. -/
def U20 : Valuation τ sig (Elt F) := after hostOps0_18 (U19 m c)
/-- Every buffer's contents after 8 of the stretches behind the loop. -/
def U21 : Valuation τ sig (Elt F) := after hostOps0_19 (U20 m c)
/-- Every buffer's contents after 9 of the stretches behind the loop. -/
def U22 : Valuation τ sig (Elt F) := after hostOps0_20 (U21 m c)
/-- Every buffer's contents after 10 of the stretches behind the loop. -/
def U23 : Valuation τ sig (Elt F) := after hostOps0_21 (U22 m c)
/-- Every buffer's contents after 11 of the stretches behind the loop. -/
def U24 : Valuation τ sig (Elt F) := after hostOps0_22 (U23 m c)
/-- Every buffer's contents after 12 of the stretches behind the loop. -/
def U25 : Valuation τ sig (Elt F) := after hostOps0_23 (U24 m c)
/-- Every buffer's contents after 13 of the stretches behind the loop. -/
def U26 : Valuation τ sig (Elt F) := after hostOps0_24 (U25 m c)
/-- The references this stretch writes. -/
abbrev hostOps0_12_T : List (Ref sig .tc) := [main_v141, main_cst_21]
/-- The stretch writes these references only. -/
theorem hostOps0_12_twrites : (hostOps0_12 : List (HloOp τ sig (Elt F))).Forall fun op => op.writes ⊆ (hostOps0_12_T.map (Proc.devRef (τ := τ) .tc)).toFinset :=
  StableHlo.forall_writes_sub_of_map rfl
/-- The stretch leaves what it does not write. -/
theorem U14_of (r : Ref sig .tc) (h : r ∉ hostOps0_12_T) : U14 m c (Proc.devRef .tc r) = U13 m c (Proc.devRef .tc r) :=
  after_of_writes_sub hostOps0_12 _ hostOps0_12_twrites h
/-- The references this stretch writes. -/
abbrev hostOps0_13_T : List (Ref sig .tc) := [main_call8_v0, main_call8_v1, main_v142]
/-- The stretch writes these references only. -/
theorem hostOps0_13_twrites : (hostOps0_13 : List (HloOp τ sig (Elt F))).Forall fun op => op.writes ⊆ (hostOps0_13_T.map (Proc.devRef (τ := τ) .tc)).toFinset :=
  StableHlo.forall_writes_sub_of_map rfl
/-- The stretch leaves what it does not write. -/
theorem U15_of (r : Ref sig .tc) (h : r ∉ hostOps0_13_T) : U15 m c (Proc.devRef .tc r) = U14 m c (Proc.devRef .tc r) :=
  after_of_writes_sub hostOps0_13 _ hostOps0_13_twrites h
/-- The references this stretch writes. -/
abbrev hostOps0_14_T : List (Ref sig .tc) := [main_values_22, main_indices_23, main_cst_24, main_v143, main_v144, main_v145, main_v146]
/-- The stretch writes these references only. -/
theorem hostOps0_14_twrites : (hostOps0_14 : List (HloOp τ sig (Elt F))).Forall fun op => op.writes ⊆ (hostOps0_14_T.map (Proc.devRef (τ := τ) .tc)).toFinset :=
  StableHlo.forall_writes_sub_of_map rfl
/-- The stretch leaves what it does not write. -/
theorem U16_of (r : Ref sig .tc) (h : r ∉ hostOps0_14_T) : U16 m c (Proc.devRef .tc r) = U15 m c (Proc.devRef .tc r) :=
  after_of_writes_sub hostOps0_14 _ hostOps0_14_twrites h
/-- The references this stretch writes. -/
abbrev hostOps0_15_T : List (Ref sig .tc) := [main_call9_c, main_call9_v0, main_call9_v1, main_call9_c_0, main_call9_v2, main_call9_v3, main_call9_v4, main_call9_c_1, main_call9_c_2, main_call9_v5, main_call9_v6, main_call9_v7, main_call9_v8, main_call9_v9, main_call9_v10, main_call9_c_3, main_call9_v11, main_call9_v12, main_call9_v13, main_call9_cst, main_call9_v14, main_v147]
/-- The stretch writes these references only. -/
theorem hostOps0_15_twrites : (hostOps0_15 : List (HloOp τ sig (Elt F))).Forall fun op => op.writes ⊆ (hostOps0_15_T.map (Proc.devRef (τ := τ) .tc)).toFinset :=
  StableHlo.forall_writes_sub_of_map rfl
/-- The stretch leaves what it does not write. -/
theorem U17_of (r : Ref sig .tc) (h : r ∉ hostOps0_15_T) : U17 m c (Proc.devRef .tc r) = U16 m c (Proc.devRef .tc r) :=
  after_of_writes_sub hostOps0_15 _ hostOps0_15_twrites h
/-- The references this stretch writes. -/
abbrev hostOps0_16_T : List (Ref sig .tc) := [main_cst_25]
/-- The stretch writes these references only. -/
theorem hostOps0_16_twrites : (hostOps0_16 : List (HloOp τ sig (Elt F))).Forall fun op => op.writes ⊆ (hostOps0_16_T.map (Proc.devRef (τ := τ) .tc)).toFinset :=
  StableHlo.forall_writes_sub_of_map rfl
/-- The stretch leaves what it does not write. -/
theorem U18_of (r : Ref sig .tc) (h : r ∉ hostOps0_16_T) : U18 m c (Proc.devRef .tc r) = U17 m c (Proc.devRef .tc r) :=
  after_of_writes_sub hostOps0_16 _ hostOps0_16_twrites h
/-- The references this stretch writes. -/
abbrev hostOps0_17_T : List (Ref sig .tc) := [main_call10_v0, main_call10_v1, main_call10_v2, main_v148]
/-- The stretch writes these references only. -/
theorem hostOps0_17_twrites : (hostOps0_17 : List (HloOp τ sig (Elt F))).Forall fun op => op.writes ⊆ (hostOps0_17_T.map (Proc.devRef (τ := τ) .tc)).toFinset :=
  StableHlo.forall_writes_sub_of_map rfl
/-- The stretch leaves what it does not write. -/
theorem U19_of (r : Ref sig .tc) (h : r ∉ hostOps0_17_T) : U19 m c (Proc.devRef .tc r) = U18 m c (Proc.devRef .tc r) :=
  after_of_writes_sub hostOps0_17 _ hostOps0_17_twrites h
/-- The references this stretch writes. -/
abbrev hostOps0_18_T : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_cst, main_call11_v14, main_v149]
/-- The stretch writes these references only. -/
theorem hostOps0_18_twrites : (hostOps0_18 : List (HloOp τ sig (Elt F))).Forall fun op => op.writes ⊆ (hostOps0_18_T.map (Proc.devRef (τ := τ) .tc)).toFinset :=
  StableHlo.forall_writes_sub_of_map rfl
/-- The stretch leaves what it does not write. -/
theorem U20_of (r : Ref sig .tc) (h : r ∉ hostOps0_18_T) : U20 m c (Proc.devRef .tc r) = U19 m c (Proc.devRef .tc r) :=
  after_of_writes_sub hostOps0_18 _ hostOps0_18_twrites h
/-- The references this stretch writes. -/
abbrev hostOps0_19_T : List (Ref sig .tc) := [main_cst_26]
/-- The stretch writes these references only. -/
theorem hostOps0_19_twrites : (hostOps0_19 : List (HloOp τ sig (Elt F))).Forall fun op => op.writes ⊆ (hostOps0_19_T.map (Proc.devRef (τ := τ) .tc)).toFinset :=
  StableHlo.forall_writes_sub_of_map rfl
/-- The stretch leaves what it does not write. -/
theorem U21_of (r : Ref sig .tc) (h : r ∉ hostOps0_19_T) : U21 m c (Proc.devRef .tc r) = U20 m c (Proc.devRef .tc r) :=
  after_of_writes_sub hostOps0_19 _ hostOps0_19_twrites h
/-- The references this stretch writes. -/
abbrev hostOps0_20_T : List (Ref sig .tc) := [main_call12_v0, main_call12_v1, main_v150]
/-- The stretch writes these references only. -/
theorem hostOps0_20_twrites : (hostOps0_20 : List (HloOp τ sig (Elt F))).Forall fun op => op.writes ⊆ (hostOps0_20_T.map (Proc.devRef (τ := τ) .tc)).toFinset :=
  StableHlo.forall_writes_sub_of_map rfl
/-- The stretch leaves what it does not write. -/
theorem U22_of (r : Ref sig .tc) (h : r ∉ hostOps0_20_T) : U22 m c (Proc.devRef .tc r) = U21 m c (Proc.devRef .tc r) :=
  after_of_writes_sub hostOps0_20 _ hostOps0_20_twrites h
/-- The references this stretch writes. -/
abbrev hostOps0_21_T : List (Ref sig .tc) := [main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_c_4, main_call13_v14, main_v151]
/-- The stretch writes these references only. -/
theorem hostOps0_21_twrites : (hostOps0_21 : List (HloOp τ sig (Elt F))).Forall fun op => op.writes ⊆ (hostOps0_21_T.map (Proc.devRef (τ := τ) .tc)).toFinset :=
  StableHlo.forall_writes_sub_of_map rfl
/-- The stretch leaves what it does not write. -/
theorem U23_of (r : Ref sig .tc) (h : r ∉ hostOps0_21_T) : U23 m c (Proc.devRef .tc r) = U22 m c (Proc.devRef .tc r) :=
  after_of_writes_sub hostOps0_21 _ hostOps0_21_twrites h
/-- The references this stretch writes. -/
abbrev hostOps0_22_T : List (Ref sig .tc) := [main_c_27]
/-- The stretch writes these references only. -/
theorem hostOps0_22_twrites : (hostOps0_22 : List (HloOp τ sig (Elt F))).Forall fun op => op.writes ⊆ (hostOps0_22_T.map (Proc.devRef (τ := τ) .tc)).toFinset :=
  StableHlo.forall_writes_sub_of_map rfl
/-- The stretch leaves what it does not write. -/
theorem U24_of (r : Ref sig .tc) (h : r ∉ hostOps0_22_T) : U24 m c (Proc.devRef .tc r) = U23 m c (Proc.devRef .tc r) :=
  after_of_writes_sub hostOps0_22 _ hostOps0_22_twrites h
/-- The references this stretch writes. -/
abbrev hostOps0_23_T : List (Ref sig .tc) := [main_call14_v0, main_call14_v1, main_v152]
/-- The stretch writes these references only. -/
theorem hostOps0_23_twrites : (hostOps0_23 : List (HloOp τ sig (Elt F))).Forall fun op => op.writes ⊆ (hostOps0_23_T.map (Proc.devRef (τ := τ) .tc)).toFinset :=
  StableHlo.forall_writes_sub_of_map rfl
/-- The stretch leaves what it does not write. -/
theorem U25_of (r : Ref sig .tc) (h : r ∉ hostOps0_23_T) : U25 m c (Proc.devRef .tc r) = U24 m c (Proc.devRef .tc r) :=
  after_of_writes_sub hostOps0_23 _ hostOps0_23_twrites h
/-- The references this stretch writes. -/
abbrev hostOps0_24_T : List (Ref sig .tc) := [main_v153, main_v154, main_v155, main_v156, main_v157, main_v158]
/-- The stretch writes these references only. -/
theorem hostOps0_24_twrites : (hostOps0_24 : List (HloOp τ sig (Elt F))).Forall fun op => op.writes ⊆ (hostOps0_24_T.map (Proc.devRef (τ := τ) .tc)).toFinset :=
  StableHlo.forall_writes_sub_of_map rfl
/-- The stretch leaves what it does not write. -/
theorem U26_of (r : Ref sig .tc) (h : r ∉ hostOps0_24_T) : U26 m c (Proc.devRef .tc r) = U25 m c (Proc.devRef .tc r) :=
  after_of_writes_sub hostOps0_24 _ hostOps0_24_twrites h
/-- The fold's end is the last boundary. -/
theorem U26_fin : U26 m c = finalContents condOps preI bodyI postI 1000 m c := by
  unfold U26 U25 U24 U23 U22 U21 U20 U19 U18 U17 U16 U15 U14 U13
  simp only [finalContents, postI, afterL_cons, afterL_nil]

/-- The loop leaves what neither its body nor its condition writes. -/
theorem atK_of (r : Ref sig .tc) (h0 : r ∉ condOps_W) (h1 : r ∉ while0Ops0_W) (h2 : r ∉ while0Ops0_1_W) (h3 : r ∉ while0Ops0_2_W)
    (h4 : r ∉ while0Ops0_3_W) (k : ℕ) : atK m k c (Proc.devRef .tc r) = U12 m c (Proc.devRef .tc r) := by
  induction k with
  | zero => rw [U12_entry]; rfl
  | succ k ih =>
    rw [show atK m (k + 1) c = afterL bodyI (after condOps (atK m k c)) from rfl]
    simp only [afterL_cons, afterL_nil]
    rw [after_of_writes_sub while0Ops0_3 _ while0Ops0_3_writes h4, after_of_writes_sub while0Ops0_2 _ while0Ops0_2_writes h3,
      after_of_writes_sub while0Ops0_1 _ while0Ops0_1_writes h2, after_of_writes_sub while0Ops0 _ while0Ops0_writes h1,
      after_of_writes_sub condOps _ condOps_writes h0, ih]

/-- The loop's end agrees with its entry on what the loop does not write. -/
theorem U13_of (r : Ref sig .tc) (h0 : r ∉ condOps_W) (h1 : r ∉ while0Ops0_W) (h2 : r ∉ while0Ops0_1_W) (h3 : r ∉ while0Ops0_2_W)
    (h4 : r ∉ while0Ops0_3_W) : U13 m c (Proc.devRef .tc r) = U12 m c (Proc.devRef .tc r) :=
  (after_of_writes_sub condOps _ condOps_writes h0).trans (atK_of m c r h0 h1 h2 h3 h4 1000)

/-- The contents a carried buffer leaves the loop with. -/
theorem U13_carried (r : Ref sig .tc) (h0 : r ∉ condOps_W) : U13 m c (Proc.devRef .tc r) = atK m 1000 c (Proc.devRef .tc r) :=
  after_of_writes_sub condOps _ condOps_writes h0
/-- The reference leaves argument 0 as launched. -/
theorem U26_main_arg0 : U26 m c (Proc.devRef .tc main_arg0) = m ((c.tc : Thread nD τ).loc main_arg0) := by
  rw [U26_of m c _ (by decide +kernel), U25_of m c _ (by decide +kernel), U24_of m c _ (by decide +kernel), U23_of m c _ (by decide +kernel), U22_of m c _ (by decide +kernel), U21_of m c _ (by decide +kernel), U20_of m c _ (by decide +kernel), U19_of m c _ (by decide +kernel), U18_of m c _ (by decide +kernel), U17_of m c _ (by decide +kernel), U16_of m c _ (by decide +kernel), U15_of m c _ (by decide +kernel), U14_of m c _ (by decide +kernel),
    U13_of m c _ (by decide +kernel) (by decide +kernel) (by decide +kernel) (by decide +kernel) (by decide +kernel),
    U12_of m c _ (by decide +kernel), U11_of m c _ (by decide +kernel), U10_of m c _ (by decide +kernel), U9_of m c _ (by decide +kernel), U8_of m c _ (by decide +kernel), U7_of m c _ (by decide +kernel), U6_of m c _ (by decide +kernel), U5_of m c _ (by decide +kernel), U4_of m c _ (by decide +kernel), U3_of m c _ (by decide +kernel), U2_of m c _ (by decide +kernel), U1_of m c _ (by decide +kernel)]
  rfl
/-- The reference leaves argument 1 as launched. -/
theorem U26_main_arg1 : U26 m c (Proc.devRef .tc main_arg1) = m ((c.tc : Thread nD τ).loc main_arg1) := by
  rw [U26_of m c _ (by decide +kernel), U25_of m c _ (by decide +kernel), U24_of m c _ (by decide +kernel), U23_of m c _ (by decide +kernel), U22_of m c _ (by decide +kernel), U21_of m c _ (by decide +kernel), U20_of m c _ (by decide +kernel), U19_of m c _ (by decide +kernel), U18_of m c _ (by decide +kernel), U17_of m c _ (by decide +kernel), U16_of m c _ (by decide +kernel), U15_of m c _ (by decide +kernel), U14_of m c _ (by decide +kernel),
    U13_of m c _ (by decide +kernel) (by decide +kernel) (by decide +kernel) (by decide +kernel) (by decide +kernel),
    U12_of m c _ (by decide +kernel), U11_of m c _ (by decide +kernel), U10_of m c _ (by decide +kernel), U9_of m c _ (by decide +kernel), U8_of m c _ (by decide +kernel), U7_of m c _ (by decide +kernel), U6_of m c _ (by decide +kernel), U5_of m c _ (by decide +kernel), U4_of m c _ (by decide +kernel), U3_of m c _ (by decide +kernel), U2_of m c _ (by decide +kernel), U1_of m c _ (by decide +kernel)]
  rfl
/-- The reference leaves argument 2 as launched. -/
theorem U26_main_arg2 : U26 m c (Proc.devRef .tc main_arg2) = m ((c.tc : Thread nD τ).loc main_arg2) := by
  rw [U26_of m c _ (by decide +kernel), U25_of m c _ (by decide +kernel), U24_of m c _ (by decide +kernel), U23_of m c _ (by decide +kernel), U22_of m c _ (by decide +kernel), U21_of m c _ (by decide +kernel), U20_of m c _ (by decide +kernel), U19_of m c _ (by decide +kernel), U18_of m c _ (by decide +kernel), U17_of m c _ (by decide +kernel), U16_of m c _ (by decide +kernel), U15_of m c _ (by decide +kernel), U14_of m c _ (by decide +kernel),
    U13_of m c _ (by decide +kernel) (by decide +kernel) (by decide +kernel) (by decide +kernel) (by decide +kernel),
    U12_of m c _ (by decide +kernel), U11_of m c _ (by decide +kernel), U10_of m c _ (by decide +kernel), U9_of m c _ (by decide +kernel), U8_of m c _ (by decide +kernel), U7_of m c _ (by decide +kernel), U6_of m c _ (by decide +kernel), U5_of m c _ (by decide +kernel), U4_of m c _ (by decide +kernel), U3_of m c _ (by decide +kernel), U2_of m c _ (by decide +kernel), U1_of m c _ (by decide +kernel)]
  rfl
/-- The reference leaves argument 3 as launched. -/
theorem U26_main_arg3 : U26 m c (Proc.devRef .tc main_arg3) = m ((c.tc : Thread nD τ).loc main_arg3) := by
  rw [U26_of m c _ (by decide +kernel), U25_of m c _ (by decide +kernel), U24_of m c _ (by decide +kernel), U23_of m c _ (by decide +kernel), U22_of m c _ (by decide +kernel), U21_of m c _ (by decide +kernel), U20_of m c _ (by decide +kernel), U19_of m c _ (by decide +kernel), U18_of m c _ (by decide +kernel), U17_of m c _ (by decide +kernel), U16_of m c _ (by decide +kernel), U15_of m c _ (by decide +kernel), U14_of m c _ (by decide +kernel),
    U13_of m c _ (by decide +kernel) (by decide +kernel) (by decide +kernel) (by decide +kernel) (by decide +kernel),
    U12_of m c _ (by decide +kernel), U11_of m c _ (by decide +kernel), U10_of m c _ (by decide +kernel), U9_of m c _ (by decide +kernel), U8_of m c _ (by decide +kernel), U7_of m c _ (by decide +kernel), U6_of m c _ (by decide +kernel), U5_of m c _ (by decide +kernel), U4_of m c _ (by decide +kernel), U3_of m c _ (by decide +kernel), U2_of m c _ (by decide +kernel), U1_of m c _ (by decide +kernel)]
  rfl

/-- Every run of the reference ends with its three results at the contents the last boundary records for them, with the
    arguments as launched. -/
theorem reference_run : θ_run (defs (F := F)) (onTc (τ := τ) (main (F := F))) ⟨m, fun _ => 0, ρ⟩ (fun r => ∀ c : Dev nD,
      r.2.mem ((c.tc : Thread nD τ).loc main_v158) = U26 m c (Proc.devRef .tc main_v158)
      ∧ r.2.mem ((c.tc : Thread nD τ).loc main_v150) = U26 m c (Proc.devRef .tc main_v150)
      ∧ r.2.mem ((c.tc : Thread nD τ).loc main_v152) = U26 m c (Proc.devRef .tc main_v152)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    rw [U26_fin]
    exact ⟨h c main_v158 rfl, h c main_v150 rfl, h c main_v152 rfl,
    (h c main_arg0 rfl).trans ((congrFun (U26_fin m c).symm _).trans (U26_main_arg0 m c)), (h c main_arg1 rfl).trans ((congrFun (U26_fin m c).symm _).trans (U26_main_arg1 m c)),
      (h c main_arg2 rfl).trans ((congrFun (U26_fin m c).symm _).trans (U26_main_arg2 m c)), (h c main_arg3 rfl).trans ((congrFun (U26_fin m c).symm _).trans (U26_main_arg3 m c))⟩) (run_fold m ρ)

/-- The reference's frame: the arguments end as launched and every semaphore counter is zero. -/
theorem reference_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems (by decide) r.2⟩) (reference_run m ρ)

end Cert.ReferenceIdeal.Value

end
-- ==== Proof.KRun.lean ====
/- The kernel's run, with the contents its three results end at. -/
module

public import proofs.«01_k».proof.Proof.Gen.KernelIdeal
public import proofs.«01_k».proof.Proof.Gen.KernelIdeal.Frame

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every run of the kernel ends with its three results at the contents the last segment boundary records for them, and
    with the arguments as launched. -/
theorem kernel_run : θ_run defs (onTc (τ := τ) (main (F := F))) ⟨m, fun _ => 0, ρ⟩ (fun r => (∀ c : Dev nD,
      r.2.mem ((c.tc : Thread nD τ).loc main_v48) = W25 m ρ c (Proc.devRef .tc main_v48)
      ∧ r.2.mem ((c.tc : Thread nD τ).loc main_v40) = W25 m ρ c (Proc.devRef .tc main_v40)
      ∧ r.2.mem ((c.tc : Thread nD τ).loc main_v42) = W25 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h _ => fun c =>
      ⟨h c _ (mem_uc main_v48 (by decide)), h c _ (mem_uc main_v40 (by decide)), h c _ (mem_uc main_v42 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c)⟩)

end Cert.KernelIdeal.Gen

end
-- ==== Proof.Take.lean ====
/- Reading rows and cells of an array at a table of indices: the bounds-checked take both programs use, at indices that are
   in range. -/
module

public import Idealize.ShloMosaic.Lib.Pointwise
public import Idealize.ShloMosaic.Lib.WordCmp
public import Idealize.ShloMosaic.Lib.Pipeline.Value
public import Idealize.ShloMosaic.Lib.Tactic.WordOmega

@[expose] public section

set_option maxRecDepth 16384

noncomputable section

namespace Cert.Nms

open Idealize.ShloMosaic

/-- The shape of rank 0. -/
abbrev s0 : Shape := ⟨0, ![]⟩
/-- The shapes of rank 1, 2 and 3. -/
abbrev s1 (a : ℕ) : Shape := ⟨1, ![a]⟩
/-- The shape of a matrix. -/
abbrev s2 (a b : ℕ) : Shape := ⟨2, ![a, b]⟩
/-- The shape of a stack of matrices. -/
abbrev s3 (a b c : ℕ) : Shape := ⟨3, ![a, b, c]⟩

/-- An index counted from the end when it is negative. -/
def wrapAt {s : Shape} (h0 : s0.BroadcastsInDim s (![] : Fin 0 → Fin s.rank)) (ext : BitVec 32) (p : IVec s 32) : IVec s 32 :=
  select (cmpi .slt p (broadcastInDim s ![] h0 (constantI s0 32 0#32)))
    (addi p (broadcastInDim s ![] h0 (constantI s0 32 ext))) p

/-- A non-negative index is left alone. -/
theorem wrapAt_apply {s : Shape} (h0 : s0.BroadcastsInDim s (![] : Fin 0 → Fin s.rank)) (ext : BitVec 32) (p : IVec s 32) (j : s.Idx) {q : ℕ}
    (hq : q < 2 ^ 31) (hp : p j = BitVec.ofNat 32 q) : wrapAt h0 ext p j = BitVec.ofNat 32 q := by
  unfold wrapAt
  pointwise
  rw [hp]
  word_omega

/-- Which of the indices are in range, one bit per index: not negative and at most the last. -/
def inRange {n : ℕ} (h0 : s0.BroadcastsInDim (s3 8 n 1) (![] : Fin 0 → Fin (s3 8 n 1).rank))
    (h1 : (s1 1).BroadcastsInDim (s3 1 1 1) (![2] : Fin 1 → Fin (s3 1 1 1).rank))
    (h2 : (s3 1 1 1).BroadcastsInDim (s3 8 n 1) (![0, 1, 2] : Fin 3 → Fin (s3 8 n 1).rank))
    (hr : (s3 8 n 1).ReducesTo [2] (s2 8 n)) (hs : 0 < s0.numel) (last : BitVec 32) (w : IVec (s3 8 n 1) 32) : IVec (s2 8 n) 1 :=
  Host.reduce IntOp.andi
    (andi (cmpi .sge w (broadcastInDim (s3 8 n 1) ![] h0 (constantI s0 32 0#32)))
      (cmpi .sle w (broadcastInDim (s3 8 n 1) ![0, 1, 2] h2 (broadcastInDim (s3 1 1 1) ![2] h1 (constantI (s1 1) 32 last)))))
    (constantI s0 1 1#1) hr hs

/-- An index in range passes the check. -/
theorem inRange_apply {n : ℕ} (h0 : s0.BroadcastsInDim (s3 8 n 1) (![] : Fin 0 → Fin (s3 8 n 1).rank))
    (h1 : (s1 1).BroadcastsInDim (s3 1 1 1) (![2] : Fin 1 → Fin (s3 1 1 1).rank))
    (h2 : (s3 1 1 1).BroadcastsInDim (s3 8 n 1) (![0, 1, 2] : Fin 3 → Fin (s3 8 n 1).rank))
    (hr : (s3 8 n 1).ReducesTo [2] (s2 8 n)) (hs : 0 < s0.numel) (last : ℕ) (w : IVec (s3 8 n 1) 32) (b : Fin 8) (i : Fin n) {q : ℕ}
    (hl : last < 2 ^ 31) (hq : q ≤ last) (hp : w (ix3 b i 0) = BitVec.ofNat 32 q) :
    inRange h0 h1 h2 hr hs (BitVec.ofNat 32 last) w (ix2 b i) = 1#1 := by
  unfold inRange
  pointwise
  rw [show (Finset.univ : Finset (Fin 1)) = {0} from rfl, Finset.fold_singleton, hp,
    (WordCmp.cmpi_sge_ofNat_eq_one_iff (w := 32) (b := 0) (by omega) (by omega)).2 (Nat.zero_le _),
    (WordCmp.cmpi_sle_ofNat_eq_one_iff (w := 32) (by omega) (by omega)).2 hq]
  rfl

/-- The cell a bounds-checked take of rows of four reads: row `p` of plane `b`, column `k`. -/
theorem gather_rows {α : Type} {N n : ℕ} (d : GatherDims (s3 8 N 4) (s3 8 n 1) (s3 8 n 4))
    (hd1 : d.offsetDims = [2]) (hd2 : d.collapsedSliceDims = [1]) (hd3 : d.operandBatchingDims = [0]) (hd4 : d.startIndicesBatchingDims = [0])
    (hd5 : d.startIndexMap = [1]) (hd6 : d.indexVectorDim = 2) (x : (s3 8 N 4).Idx → α) (w : IVec (s3 8 n 1) 32) (b : Fin 8) (i : Fin n) (k : Fin 4)
    (q : Fin N) (hN : N ≤ 2 ^ 31) (hp : w (ix3 b i 0) = BitVec.ofNat 32 q.val) : Host.gather d x w (ix3 b i k) = x (ix3 b q k) := by
  have hds : d.sliceSizes 1 = 1 := d.slice_collapsed 1 (by rw [hd2]; simp)
  obtain ⟨od, cs, ob, sb, sm, iv, ss, wf⟩ := d
  simp only at hd1 hd2 hd3 hd4 hd5 hd6 hds
  subst hd1 hd2 hd3 hd4 hd5 hd6
  unfold Host.gather
  refine congrArg x (funext fun a => Fin.ext ?_)
  fin_cases a
  · show 0 + b.val + 0 = b.val
    omega
  · show min (w _).toInt.toNat (N - ss 1) + 0 + 0 = q.val
    rw [hds]
    have e : ∀ (j : (s3 8 n 1).Idx), j = ix3 b i 0 → min (w j).toInt.toNat (N - 1) + 0 + 0 = q.val := by
      rintro j rfl
      rw [hp, WordCmp.toInt_ofNat_of_lt (by omega), Int.toNat_natCast]
      omega
    refine e _ (funext fun z => ?_)
    fin_cases z <;> rfl
  · show 0 + 0 + k.val = k.val
    omega

/-- The cell a bounds-checked take of single cells reads: column `p` of row `b`. -/
theorem gather_cells {α : Type} {N n : ℕ} (d : GatherDims (s2 8 N) (s3 8 n 1) (s2 8 n))
    (hd1 : d.offsetDims = []) (hd2 : d.collapsedSliceDims = [1]) (hd3 : d.operandBatchingDims = [0]) (hd4 : d.startIndicesBatchingDims = [0])
    (hd5 : d.startIndexMap = [1]) (hd6 : d.indexVectorDim = 2) (x : (s2 8 N).Idx → α) (w : IVec (s3 8 n 1) 32) (b : Fin 8) (i : Fin n)
    (q : Fin N) (hN : N ≤ 2 ^ 31) (hp : w (ix3 b i 0) = BitVec.ofNat 32 q.val) : Host.gather d x w (ix2 b i) = x (ix2 b q) := by
  have hds : d.sliceSizes 1 = 1 := d.slice_collapsed 1 (by rw [hd2]; simp)
  obtain ⟨od, cs, ob, sb, sm, iv, ss, wf⟩ := d
  simp only at hd1 hd2 hd3 hd4 hd5 hd6 hds
  subst hd1 hd2 hd3 hd4 hd5 hd6
  unfold Host.gather
  refine congrArg x (funext fun a => Fin.ext ?_)
  fin_cases a
  · show 0 + b.val + 0 = b.val
    omega
  · show min (w _).toInt.toNat (N - ss 1) + 0 + 0 = q.val
    rw [hds]
    have e : ∀ (j : (s3 8 n 1).Idx), j = ix3 b i 0 → min (w j).toInt.toNat (N - 1) + 0 + 0 = q.val := by
      rintro j rfl
      rw [hp, WordCmp.toInt_ofNat_of_lt (by omega), Int.toNat_natCast]
      omega
    refine e _ (funext fun z => ?_)
    fin_cases z <;> rfl

/-- The cell an unbatched gather from a flat table reads: entry `p`. -/
theorem gather_flat {α : Type} {N n : ℕ} (d : GatherDims (s1 N) (s3 8 n 1) (s2 8 n))
    (hd1 : d.offsetDims = []) (hd2 : d.collapsedSliceDims = [0]) (hd3 : d.operandBatchingDims = []) (hd4 : d.startIndicesBatchingDims = [])
    (hd5 : d.startIndexMap = [0]) (hd6 : d.indexVectorDim = 2) (x : (s1 N).Idx → α) (w : IVec (s3 8 n 1) 32) (b : Fin 8) (i : Fin n)
    (q : Fin N) (hN : N ≤ 2 ^ 31) (hp : w (ix3 b i 0) = BitVec.ofNat 32 q.val) : Host.gather d x w (ix2 b i) = x (ix1 q) := by
  have hds : d.sliceSizes 0 = 1 := d.slice_collapsed 0 (by rw [hd2]; simp)
  obtain ⟨od, cs, ob, sb, sm, iv, ss, wf⟩ := d
  simp only at hd1 hd2 hd3 hd4 hd5 hd6 hds
  subst hd1 hd2 hd3 hd4 hd5 hd6
  unfold Host.gather
  refine congrArg x (funext fun a => Fin.ext ?_)
  fin_cases a
  show min (w _).toInt.toNat (N - ss 0) + 0 + 0 = q.val
  rw [hds]
  have e : ∀ (j : (s3 8 n 1).Idx), j = ix3 b i 0 → min (w j).toInt.toNat (N - 1) + 0 + 0 = q.val := by
    rintro j rfl
    rw [hp, WordCmp.toInt_ofNat_of_lt (by omega), Int.toNat_natCast]
    omega
  refine e _ (funext fun z => ?_)
  fin_cases z <;> rfl

/-- A bounds-checked take of rows of four: row `p` of each plane where `p` is in range, `fill` elsewhere. -/
def takeRows {N n : ℕ} (h0 : s0.BroadcastsInDim (s3 8 n 1) (![] : Fin 0 → Fin (s3 8 n 1).rank))
    (h1 : (s1 1).BroadcastsInDim (s3 1 1 1) (![2] : Fin 1 → Fin (s3 1 1 1).rank))
    (h2 : (s3 1 1 1).BroadcastsInDim (s3 8 n 1) (![0, 1, 2] : Fin 3 → Fin (s3 8 n 1).rank))
    (hr : (s3 8 n 1).ReducesTo [2] (s2 8 n)) (hs : 0 < s0.numel)
    (h3 : (s2 8 n).BroadcastsInDim (s3 8 n 4) (![0, 1] : Fin 2 → Fin (s3 8 n 4).rank))
    (d : GatherDims (s3 8 N 4) (s3 8 n 1) (s3 8 n 4)) (ext last : BitVec 32) (fill : FVec Ideal (s3 8 n 4) .f32)
    (x : FVec Ideal (s3 8 N 4) .f32) (p : IVec (s3 8 n 1) 32) : FVec Ideal (s3 8 n 4) .f32 :=
  select (broadcastInDim (s3 8 n 4) ![0, 1] h3 (inRange h0 h1 h2 hr hs last (wrapAt h0 ext p))) (Host.gather d x (wrapAt h0 ext p)) fill

/-- At indices in range the take is the rows at the indices. -/
theorem takeRows_apply {N n : ℕ} (h0 : s0.BroadcastsInDim (s3 8 n 1) (![] : Fin 0 → Fin (s3 8 n 1).rank))
    (h1 : (s1 1).BroadcastsInDim (s3 1 1 1) (![2] : Fin 1 → Fin (s3 1 1 1).rank))
    (h2 : (s3 1 1 1).BroadcastsInDim (s3 8 n 1) (![0, 1, 2] : Fin 3 → Fin (s3 8 n 1).rank))
    (hr : (s3 8 n 1).ReducesTo [2] (s2 8 n)) (hs : 0 < s0.numel)
    (h3 : (s2 8 n).BroadcastsInDim (s3 8 n 4) (![0, 1] : Fin 2 → Fin (s3 8 n 4).rank))
    (d : GatherDims (s3 8 N 4) (s3 8 n 1) (s3 8 n 4)) (hd1 : d.offsetDims = [2]) (hd2 : d.collapsedSliceDims = [1])
    (hd3 : d.operandBatchingDims = [0]) (hd4 : d.startIndicesBatchingDims = [0])
    (hd5 : d.startIndexMap = [1]) (hd6 : d.indexVectorDim = 2) (ext : BitVec 32) (last : ℕ) (fill : FVec Ideal (s3 8 n 4) .f32)
    (x : FVec Ideal (s3 8 N 4) .f32) (p : IVec (s3 8 n 1) 32) (b : Fin 8) (i : Fin n) (k : Fin 4) (q : Fin N) (hN : N ≤ 2 ^ 31) (hl : N = last + 1)
    (hp : p (ix3 b i 0) = BitVec.ofNat 32 q.val) :
    takeRows h0 h1 h2 hr hs h3 d ext (BitVec.ofNat 32 last) fill x p (ix3 b i k) = x (ix3 b q k) := by
  have hw := wrapAt_apply h0 ext p (ix3 b i 0) (by omega) hp
  have hb : broadcastInDim (s3 8 n 4) ![0, 1] h3 (inRange h0 h1 h2 hr hs (BitVec.ofNat 32 last) (wrapAt h0 ext p)) (ix3 b i k) = 1#1 := by
    rw [← inRange_apply h0 h1 h2 hr hs last (wrapAt h0 ext p) b i (q := q.val) (by omega) (by omega) hw]
    refine broadcastInDim_apply _ h3 _ _ _ fun a => ?_
    have := i.isLt
    fin_cases a
    · rfl
    · show i.val = if n = 1 then 0 else i.val
      split <;> omega
  unfold takeRows
  rw [show ∀ (c : IVec (s3 8 n 4) 1) (u v : FVec Ideal (s3 8 n 4) .f32) j, select c u v j = Scalar.select (c j) (u j) (v j) from fun _ _ _ _ => rfl,
    hb, gather_rows d hd1 hd2 hd3 hd4 hd5 hd6 x _ b i k q hN hw]
  rfl

/-- A bounds-checked take of single cells. -/
def takeCells {α : Type} {N n : ℕ} (h0 : s0.BroadcastsInDim (s2 8 n) (![] : Fin 0 → Fin (s2 8 n).rank))
    (hc : (s2 8 n).ShapeCasts (s3 8 n 1)) (h0' : s0.BroadcastsInDim (s3 8 n 1) (![] : Fin 0 → Fin (s3 8 n 1).rank))
    (h1 : (s1 1).BroadcastsInDim (s3 1 1 1) (![2] : Fin 1 → Fin (s3 1 1 1).rank))
    (h2 : (s3 1 1 1).BroadcastsInDim (s3 8 n 1) (![0, 1, 2] : Fin 3 → Fin (s3 8 n 1).rank))
    (hr : (s3 8 n 1).ReducesTo [2] (s2 8 n)) (hs : 0 < s0.numel)
    (d : GatherDims (s2 8 N) (s3 8 n 1) (s2 8 n)) (ext last : BitVec 32) (fill : (s2 8 n).Idx → α)
    (x : (s2 8 N).Idx → α) (p : IVec (s2 8 n) 32) : (s2 8 n).Idx → α :=
  select (inRange h0' h1 h2 hr hs last (shapeCast (s3 8 n 1) (wrapAt h0 ext p) hc)) (Host.gather d x (shapeCast (s3 8 n 1) (wrapAt h0 ext p) hc)) fill

/-- At indices in range the take is the cells at the indices. -/
theorem takeCells_apply {α : Type} {N n : ℕ} (h0 : s0.BroadcastsInDim (s2 8 n) (![] : Fin 0 → Fin (s2 8 n).rank))
    (hc : (s2 8 n).ShapeCasts (s3 8 n 1)) (h0' : s0.BroadcastsInDim (s3 8 n 1) (![] : Fin 0 → Fin (s3 8 n 1).rank))
    (h1 : (s1 1).BroadcastsInDim (s3 1 1 1) (![2] : Fin 1 → Fin (s3 1 1 1).rank))
    (h2 : (s3 1 1 1).BroadcastsInDim (s3 8 n 1) (![0, 1, 2] : Fin 3 → Fin (s3 8 n 1).rank))
    (hr : (s3 8 n 1).ReducesTo [2] (s2 8 n)) (hs : 0 < s0.numel)
    (d : GatherDims (s2 8 N) (s3 8 n 1) (s2 8 n)) (hd1 : d.offsetDims = []) (hd2 : d.collapsedSliceDims = [1])
    (hd3 : d.operandBatchingDims = [0]) (hd4 : d.startIndicesBatchingDims = [0])
    (hd5 : d.startIndexMap = [1]) (hd6 : d.indexVectorDim = 2) (ext : BitVec 32) (last : ℕ) (fill : (s2 8 n).Idx → α)
    (x : (s2 8 N).Idx → α) (p : IVec (s2 8 n) 32) (b : Fin 8) (i : Fin n) (q : Fin N) (hN : N ≤ 2 ^ 31) (hl : N = last + 1)
    (hp : p (ix2 b i) = BitVec.ofNat 32 q.val) :
    takeCells h0 hc h0' h1 h2 hr hs d ext (BitVec.ofNat 32 last) fill x p (ix2 b i) = x (ix2 b q) := by
  have hw : shapeCast (s3 8 n 1) (wrapAt h0 ext p) hc (ix3 b i 0) = BitVec.ofNat 32 q.val := by
    have e := wrapAt_apply h0 ext p (ix2 b i) (by omega) hp
    rw [← e]
    refine shapeCast_apply _ hc _ _ ?_
    rw [rowMajor_val3 (d := ![8, n, 1]) _ (n * 1) 1 rfl rfl, rowMajor_val2 (d := ![8, n]) _ n rfl]
    show b.val * n + i.val = b.val * (n * 1) + (i.val * 1 + 0)
    rw [Nat.mul_one, Nat.mul_one]; rfl
  unfold takeCells
  pointwise
  rw [inRange_apply h0' h1 h2 hr hs last _ b i (by omega) (by omega) hw, gather_cells d hd1 hd2 hd3 hd4 hd5 hd6 x _ b i q hN hw]
  rfl

end Cert.Nms
end
-- ==== Proof.Top.lean ====
/- The largest entries of each row: every entry returned is the row's entry at the position returned with it. -/
module

public import proofs.«01_k».proof.Proof.Take

@[expose] public section

set_option maxRecDepth 16384

noncomputable section

namespace Cert.Nms

open Idealize.ShloMosaic

/-- Entry `i` of row `b` of the `K` largest: its position is a column `q` of the row, and its value the row's at `q`. -/
theorem topK_apply {N K : ℕ} (x : FVec Ideal (s2 8 N) .f32) (gt : Ideal .f32 → Ideal .f32 → BitVec 1)
    (h : (s2 8 N).Slices (fun _ => 0) (s2 8 K)) (b : Fin 8) (i : Fin K) :
    ∃ q : Fin N, (Host.topK (s2 8 K) 1 gt x h).2 (ix2 b i) = BitVec.ofNat 32 q.val
      ∧ (Host.topK (s2 8 K) 1 gt x h).1 (ix2 b i) = x (ix2 b q) := by
  unfold Host.topK Host.sort2
  have h1 : 1 < (s2 8 N).rank := Nat.one_lt_two
  simp only [dif_pos h1]
  unfold extractStridedSlice
  refine ⟨_, rfl, congrArg x (funext fun a => ?_)⟩
  fin_cases a
  · refine Fin.ext ?_
    show 0 + b.val = b.val
    omega
  · rfl

end Cert.Nms
end
-- ==== Proof.Spec.lean ====
/- The mathematics of one image's detections, on plain numbers: the class probabilities, the decoded box, which scores
   count, and the overlap of two boxes. -/
module

public import proofs.«01_k».proof.Proof.Top

@[expose] public section

noncomputable section

namespace Cert.Nms

open Idealize.ShloMosaic

/-- The word for minus infinity, as a number. -/
def lowest : EReal := Ideal.ofBits FTy.f32 0xFF800000#32

/-- The largest of a row of logits. -/
def rowMax {n : ℕ} (x : Fin n → EReal) : EReal := Finset.fold max lowest x Finset.univ

/-- The softmax of a row of logits, at class `k`. -/
def prob (x : Fin 81 → EReal) (k : Fin 81) : EReal :=
  Ideal.div (Ideal.exp (x k - rowMax x)) (∑ l, Ideal.exp (x l - rowMax x))

/-- The decoded centre of a box on axis `a`, from its offsets `o` and its prior `d`. -/
def centre (o d : Fin 4 → EReal) (a : Fin 2) : EReal :=
  d ⟨a.val, by omega⟩ + o ⟨a.val, by omega⟩ * Ideal.ofBits FTy.f32 0x3DCCCCCD#32 * d ⟨2 + a.val, by omega⟩

/-- Half the decoded extent of a box on axis `a`. -/
def half (o d : Fin 4 → EReal) (a : Fin 2) : EReal :=
  Ideal.div (d ⟨2 + a.val, by omega⟩ * Ideal.exp (o ⟨2 + a.val, by omega⟩ * Ideal.ofBits FTy.f32 0x3E4CCCCD#32))
    (Ideal.ofBits FTy.f32 0x40000000#32)

/-- The decoded box's corners: lower ends first. -/
def corner (o d : Fin 4 → EReal) : Fin 4 → EReal :=
  ![centre o d 0 - half o d 0, centre o d 1 - half o d 1, centre o d 0 + half o d 0, centre o d 1 + half o d 1]

/-- Whether a score counts: it exceeds the threshold and its box is not degenerate. -/
def counts (s : EReal) (r : Fin 4 → EReal) : BitVec 1 :=
  IntOp.andi (IntOp.andi (BitVec.ofBool (decide (Ideal.ofBits FTy.f32 0x3D4CCCCD#32 < s)))
    (BitVec.ofBool (decide (Ideal.ofBits FTy.f32 0x3C23D70A#32 ≤ r 2 - r 0))))
    (BitVec.ofBool (decide (Ideal.ofBits FTy.f32 0x3C23D70A#32 ≤ r 3 - r 1)))

/-- A score, or minus one where it does not count. -/
def masked (s : EReal) (r : Fin 4 → EReal) : EReal := Scalar.select (counts s r) s (Ideal.ofBits FTy.f32 0xBF800000#32)

/-- The area of a box, nothing where its ends are crossed. -/
def area (r : Fin 4 → EReal) : EReal := max 0 (r 2 - r 0) * max 0 (r 3 - r 1)

/-- The area two boxes share. -/
def shared (p q : Fin 4 → EReal) : EReal :=
  max 0 (min (p 2) (q 2) - max (p 0) (q 0)) * max 0 (min (p 3) (q 3) - max (p 1) (q 1))

/-- The overlap of two boxes: shared area over joint area. -/
def overlap (p q : Fin 4 → EReal) : EReal :=
  Ideal.div (shared p q) (max (area p + area q - shared p q) (Ideal.ofBits FTy.f32 0x3089705F#32))

/-- A truth value as a number. -/
def flag (p : Prop) [Decidable p] : EReal := if p then 1 else 0

open Classical in
/-- The overlap of candidates `i` and `j`, counted where both are valid. -/
def overlapOf (v : Fin 1000 → Prop) (r : Fin 1000 → Fin 4 → EReal) (i j : Fin 1000) : EReal :=
  overlap (r i) (r j) * flag (v i ∧ v j)

/-- Greedy suppression: which candidates remain after the first `n` have had their turn to suppress later ones. -/
def remains (v : Fin 1000 → Prop) (r : Fin 1000 → Fin 4 → EReal) : ℕ → Fin 1000 → Prop
  | 0, j => v j
  | n + 1, j => remains v r n j ∧ ¬ ∃ h : n < 1000, Ideal.ofBits FTy.f32 0x3EE66666#32 < overlapOf v r ⟨n, h⟩ j ∧ n < j.val ∧ remains v r n ⟨n, h⟩

/-- The candidates that remain once each has had its turn. -/
@[irreducible] def survives (v : Fin 1000 → Prop) (r : Fin 1000 → Fin 4 → EReal) : Fin 1000 → Prop := remains v r 1000

/-- Selecting by a truth value's bit. -/
theorem select_decide {α : Type} (p : Prop) [Decidable p] (a b : α) : Scalar.select (BitVec.ofBool (decide p)) a b = if p then a else b := by
  by_cases h : p <;> simp [Scalar.select, h]

/-- Minus infinity changes no maximum that starts from it. -/
theorem max_lowest_rowMax {n : ℕ} (x : Fin n → EReal) : max lowest (rowMax x) = rowMax x :=
  max_eq_right (Finset.le_fold_max _ |>.2 (Or.inl le_rfl))

end Cert.Nms
end
-- ==== Proof.Score.lean ====
/- What the first kernel region leaves: every anchor's masked scores and decoded box. -/
module

public import proofs.«01_k».proof.Proof.KRun
public import proofs.«01_k».proof.Proof.Spec
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Cert.Nms
open Idealize.SL Idealize.SL.RA Idealize.SL.BI
open Idealize.ShloMosaic.Rounds
open Idealize.ShloMosaic.Pipeline (Dat Cfg Window BodyObligation cellOf)

/-- The box the body computes for anchor `p`, from the offsets' block and the priors. -/
theorem pay_box (x1 : Vec Ideal S1x8732x4 .f32) (x2 : Vec Ideal S8732x4 .f32) (p : Fin 8732) (k : Fin 4) :
    k0_pay1 (k0_pay15 x1 x2) (ix3 0 p k) = corner (fun a => x1 (ix3 0 p a)) (fun a => x2 (ix2 p a)) k := by
  unfold k0_pay1 k0_pay15 k0_pay14 k0_pay13 k0_pay12 k0_pay11 k0_pay10 k0_pay9 k0_pay8 k0_pay7 k0_pay6 k0_pay5 k0_pay4
  fin_cases k
  · pointwise
    rfl
  · pointwise
    rfl
  · pointwise
    rfl
  · pointwise
    rfl

/-- The masked score the body computes for anchor `p` and class `k`. -/
theorem pay_masked (x0 : Vec Ideal S1x8732x81 .f32) (x1 : Vec Ideal S1x8732x4 .f32) (x2 : Vec Ideal S8732x4 .f32) (p : Fin 8732) (k : Fin 80) :
    k0_pay2 (k0_pay3 x0) (k0_pay11 x1 x2) (k0_pay12 x1 x2) (k0_pay13 x1 x2) (k0_pay14 x1 x2) (ix3 0 p k)
      = masked (prob (fun l => x0 (ix3 0 p l)) ⟨1 + k.val, by omega⟩) (corner (fun a => x1 (ix3 0 p a)) (fun a => x2 (ix2 p a))) := by
  unfold k0_pay2 k0_pay3 k0_pay14 k0_pay13 k0_pay12 k0_pay11 k0_pay10 k0_pay9 k0_pay8 k0_pay7 k0_pay6 k0_pay5 k0_pay4
  pointwise
  rfl

/-- Point `t` takes image `t` of every window that has an image axis, and the priors whole. -/
theorem idx0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

variable (V : (c : Dev nD) → (b : Ref sig .tc) → Buf (Elt Ideal) ((c : Thread nD τ).loc b))

/-- The first region's boxes, whole. -/
theorem boxes_arr (c : Dev nD) :
    ((dat0 V c).arrAt 4 cfg0.N : FVec Ideal (s3 8 8732 4) .f32) = fun j => corner (fun a => (V c (Pipeline.arrRef spec0 1) : FVec Ideal (s3 8 8732 4) .f32) (ix3 (j 0) (j 1) a))
      (fun a => (V c (Pipeline.arrRef spec0 2) : FVec Ideal (s2 8732 4) .f32) (ix2 (j 1) a)) (j 2) := by
  refine (dat0 V c).arrAt_eq_of_covers 4 _ (by decide +kernel) fun t hf y => ?_
  rw [after0_4]
  frame_out
  change S1x8732x4.Idx at y
  obtain ⟨p, k, rfl⟩ : ∃ p k, y = ix3 0 p k := ⟨y 1, y 2, by idx_vars y; obtain rfl : y0 = 0 := Subsingleton.elim _ _; rfl⟩
  refine (pay_box _ _ p k).trans ?_
  have hi := idx0 t
  congr 1
  · funext a
    blk_ext [iblk0, hi]
  · funext a
    blk_ext [iblk0, hi]
  · apply Fin.ext
    blk_simp [hi]

/-- The first region's masked scores, whole. -/
theorem masked_arr (c : Dev nD) :
    ((dat0 V c).arrAt 3 cfg0.N : FVec Ideal (s3 8 8732 80) .f32) = fun j => masked (prob (fun l => (V c (Pipeline.arrRef spec0 0) : FVec Ideal (s3 8 8732 81) .f32) (ix3 (j 0) (j 1) l)) ⟨1 + (j 2).val, by have := (j 2).isLt; change _ < 80 at this; omega⟩)
      (corner (fun a => (V c (Pipeline.arrRef spec0 1) : FVec Ideal (s3 8 8732 4) .f32) (ix3 (j 0) (j 1) a))
        (fun a => (V c (Pipeline.arrRef spec0 2) : FVec Ideal (s2 8732 4) .f32) (ix2 (j 1) a))) := by
  refine (dat0 V c).arrAt_eq_of_covers 3 _ (by decide +kernel) fun t hf y => ?_
  rw [after0_3]
  frame_out
  change S1x8732x80.Idx at y
  obtain ⟨p, k, rfl⟩ : ∃ p k, y = ix3 0 p k := ⟨y 1, y 2, by idx_vars y; obtain rfl : y0 = 0 := Subsingleton.elim _ _; rfl⟩
  refine (pay_masked _ _ _ p k).trans ?_
  have hi := idx0 t
  refine congrArg₂ masked (congrArg₂ prob ?_ (Fin.ext ?_)) (congrArg₂ corner ?_ ?_)
  · funext a
    blk_ext [iblk0, hi]
  · show 1 + k.val = 1 + (((cfg0.win 3).blk t).view.emb (ix3 0 p k) 2).val
    refine congrArg (1 + ·) ?_
    blk_simp [hi]
  · funext a
    blk_ext [iblk0, hi]
  · funext a
    blk_ext [iblk0, hi]

end Cert.KernelIdeal.Gen
end
-- ==== Proof.Cand.lean ====
/- What both programs compute, on plain numbers: the best thousand entries of every image, greedy suppression among them, and
   the best hundred that remain. -/
module

public import proofs.«01_k».proof.Proof.Spec

@[expose] public section

set_option maxRecDepth 16384

noncomputable section

namespace Cert.Nms

open Idealize.ShloMosaic

/-- Two arrays of two axes agree if their cells do. -/
theorem cells2 {α : Type} {n m : ℕ} (x y : (s2 n m).Idx → α) (h : ∀ a b, x (ix2 a b) = y (ix2 a b)) : x = y := by
  funext j
  have e : j = ix2 (j 0) (j 1) := by
    funext a
    fin_cases a <;> rfl
  rw [e]
  exact h _ _

/-- Two arrays of three axes agree if their cells do. -/
theorem cells3 {α : Type} {n m l : ℕ} (x y : (s3 n m l).Idx → α) (h : ∀ a b c, x (ix3 a b c) = y (ix3 a b c)) : x = y := by
  funext j
  have e : j = ix3 (j 0) (j 1) (j 2) := by
    funext a
    fin_cases a <;> rfl
  rw [e]
  exact h _ _ _

/-- The column of entry `i` of the `K` largest of row `b`. -/
def best {N K : ℕ} (x : FVec Ideal (s2 8 N) .f32) (h : (s2 8 N).Slices (fun _ => 0) (s2 8 K)) (b : Fin 8) (i : Fin K) : Fin N :=
  Classical.choose (topK_apply x (FloatOps.cmpfTotal .gt) h b i)

/-- The position word of entry `i` of the `K` largest. -/
theorem best_index {N K : ℕ} (x : FVec Ideal (s2 8 N) .f32) (h : (s2 8 N).Slices (fun _ => 0) (s2 8 K)) (b : Fin 8) (i : Fin K) :
    (Host.topK (s2 8 K) 1 (FloatOps.cmpfTotal .gt) x h).2 (ix2 b i) = BitVec.ofNat 32 (best x h b i).val :=
  (Classical.choose_spec (topK_apply x (FloatOps.cmpfTotal .gt) h b i)).1

/-- The value of entry `i` of the `K` largest. -/
theorem best_value {N K : ℕ} (x : FVec Ideal (s2 8 N) .f32) (h : (s2 8 N).Slices (fun _ => 0) (s2 8 K)) (b : Fin 8) (i : Fin K) :
    (Host.topK (s2 8 K) 1 (FloatOps.cmpfTotal .gt) x h).1 (ix2 b i) = x (ix2 b (best x h b i)) :=
  (Classical.choose_spec (topK_apply x (FloatOps.cmpfTotal .gt) h b i)).2

/-- A thousand columns fit in all the scores' columns. -/
theorem fits_scores : (s2 8 698560).Slices (fun _ => 0) (s2 8 1000) := by decide

/-- A hundred columns fit in a thousand. -/
theorem fits_kept : (s2 8 1000).Slices (fun _ => 0) (s2 8 100) := by decide

variable (A0 : FVec Ideal (s3 8 8732 81) .f32) (A1 : FVec Ideal (s3 8 8732 4) .f32) (A2 : FVec Ideal (s2 8732 4) .f32)

/-- The box of prior `p` in image `b`. -/
def boxAt (b : Fin 8) (p : Fin 8732) : Fin 4 → EReal := corner (fun a => A1 (ix3 b p a)) (fun a => A2 (ix2 p a))

/-- The probability of foreground class `c` at prior `p` of image `b`. -/
def scoreAt (b : Fin 8) (p : Fin 8732) (c : Fin 80) : EReal := prob (fun l => A0 (ix3 b p l)) ⟨1 + c.val, by omega⟩

/-- The prior of a flat position. -/
def priorOf (q : Fin 698560) : Fin 8732 := ⟨q.val / 80, by omega⟩

/-- The foreground class of a flat position. -/
def classOf (q : Fin 698560) : Fin 80 := ⟨q.val % 80, by omega⟩

/-- Every score of an image in one row, minus one where it does not count. -/
def flat : FVec Ideal (s2 8 698560) .f32 := fun j => masked (scoreAt A0 (j 0) (priorOf (j 1)) (classOf (j 1))) (boxAt A1 A2 (j 0) (priorOf (j 1)))

/-- Every score, minus one where it does not count. -/
def scoresOf : FVec Ideal (s3 8 8732 80) .f32 := fun j => masked (scoreAt A0 (j 0) (j 1) (j 2)) (boxAt A1 A2 (j 0) (j 1))

/-- Every box. -/
def boxesOf : FVec Ideal (s3 8 8732 4) .f32 := fun j => boxAt A1 A2 (j 0) (j 1) (j 2)

/-- The scores of an image in one row. -/
theorem cast_scores (h : (s3 8 8732 80).ShapeCasts (s2 8 698560)) : shapeCast (s2 8 698560) (scoresOf A0 A1 A2) h = flat A0 A1 A2 := by
  refine cells2 _ _ fun b q => ?_
  refine (shapeCast_apply _ h (ix2 b q) (ix3 b (priorOf q) (classOf q)) ?_).trans rfl
  rw [rowMajor_val3 (d := ![8, 8732, 80]) _ (8732 * 80) 80 rfl rfl, rowMajor_val2 (d := ![8, 698560]) _ 698560 rfl]
  show b.val * (8732 * 80) + (q.val / 80) * 80 + q.val % 80 = b.val * 698560 + q.val
  omega

/-- The flat position of candidate `i`. -/
def cand (b : Fin 8) (i : Fin 1000) : Fin 698560 := best (flat A0 A1 A2) fits_scores b i

/-- Candidate `i`'s entry among the scores. -/
def vals (b : Fin 8) (i : Fin 1000) : EReal := flat A0 A1 A2 (ix2 b (cand A0 A1 A2 b i))

/-- Candidate `i`'s box. -/
def cbox (b : Fin 8) (i : Fin 1000) : Fin 4 → EReal := boxAt A1 A2 b (priorOf (cand A0 A1 A2 b i))

/-- Candidate `i`'s score. -/
def cscore (b : Fin 8) (i : Fin 1000) : EReal := scoreAt A0 b (priorOf (cand A0 A1 A2 b i)) (classOf (cand A0 A1 A2 b i))

/-- Candidate `i`'s label. -/
def clab (b : Fin 8) (i : Fin 1000) : BitVec 32 := BitVec.ofNat 32 (1 + (classOf (cand A0 A1 A2 b i)).val)

/-- One more than the largest coordinate among an image's candidates. -/
def span (b : Fin 8) : EReal := Finset.fold max lowest (fun x : Fin 1000 × Fin 4 => cbox A0 A1 A2 b x.1 x.2) Finset.univ + 1

/-- Candidate `i`'s box, moved apart from the boxes of every other label. -/
def obox (b : Fin 8) (i : Fin 1000) (k : Fin 4) : EReal :=
  cbox A0 A1 A2 b i k + FloatOps.sitofp (F := Ideal) .f32 (clab A0 A1 A2 b i) * span A0 A1 A2 b

/-- Candidate `i` is a detection at all. -/
def valid (b : Fin 8) (i : Fin 1000) : Prop := 0 < vals A0 A1 A2 b i

open Classical in
/-- The candidates' scores, minus one where suppressed. -/
def left : FVec Ideal (s2 8 1000) .f32 := fun j =>
  if survives (valid A0 A1 A2 (j 0)) (obox A0 A1 A2 (j 0)) (j 1) ∧ valid A0 A1 A2 (j 0) (j 1) then vals A0 A1 A2 (j 0) (j 1) else Ideal.ofBits FTy.f32 0xBF800000#32

/-- The candidate behind detection `i`. -/
def pick (b : Fin 8) (i : Fin 100) : Fin 1000 := best (left A0 A1 A2) fits_kept b i

/-- Detection `i` is one. -/
def found (b : Fin 8) (i : Fin 100) : Prop := 0 < left A0 A1 A2 (ix2 b (pick A0 A1 A2 b i))

open Classical in
/-- The detections' scores, nothing where there is none. -/
def outScores : FVec Ideal (s2 8 100) .f32 := fun j => if found A0 A1 A2 (j 0) (j 1) then cscore A0 A1 A2 (j 0) (pick A0 A1 A2 (j 0) (j 1)) else 0

open Classical in
/-- The detections' labels, zero where there is none. -/
def outLabels : IVec (s2 8 100) 32 := fun j => if found A0 A1 A2 (j 0) (j 1) then clab A0 A1 A2 (j 0) (pick A0 A1 A2 (j 0) (j 1)) else 0#32

open Classical in
/-- The detections' boxes before scaling, nothing where there is none. -/
def outBoxes : FVec Ideal (s3 8 100 4) .f32 := fun j => if found A0 A1 A2 (j 0) (j 1) then cbox A0 A1 A2 (j 0) (pick A0 A1 A2 (j 0) (j 1)) (j 2) else 0

/-- The joined size pairs have four columns. -/
theorem joins : Shape.Concatenates [s2 8 2, s2 8 2] (s2 8 4) 1 := by decide

/-- Four columns per image as one row per image. -/
theorem spreads_row : (s2 8 4).BroadcastsInDim (s3 8 1 4) (![0, 2] : Fin 2 → Fin (s3 8 1 4).rank) := by decide

/-- One row per image, repeated for every detection. -/
theorem spreads_all : (s3 8 1 4).BroadcastsInDim (s3 8 100 4) (![0, 1, 2] : Fin 3 → Fin (s3 8 100 4).rank) := by decide

/-- The images' widths and heights against every coordinate, from their heights and widths `t`. -/
def scales (t : IVec (s2 8 2) 32) : FVec Ideal (s3 8 100 4) .f32 :=
  broadcastInDim (s3 8 100 4) ![0, 1, 2] spreads_all (broadcastInDim (s3 8 1 4) ![0, 2] spreads_row
    (concatenate (s2 8 4) 1 [⟨s2 8 2, sitofp .f32 (Host.reverse [1] t)⟩, ⟨s2 8 2, sitofp .f32 (Host.reverse [1] t)⟩] joins))

/-- A truth value's bit, as a number. -/
theorem bit_flag (p : Prop) [Decidable p] : (FloatOps.uitofp FTy.f32 (BitVec.ofBool (decide p)) : Ideal .f32) = flag p := by
  unfold flag
  by_cases hp : p
  · rw [if_pos hp, decide_eq_true hp]
    show (((1#1 : BitVec 1).toNat : ℝ) : EReal) = 1
    simp
  · rw [if_neg hp, decide_eq_false hp]
    show (((0#1 : BitVec 1).toNat : ℝ) : EReal) = 0
    simp

/-- The word zero, as a number. -/
theorem word_zero : (FloatOps.sitofp FTy.f32 (0#32) : Ideal .f32) = 0 := by
  show ((((0#32 : BitVec 32).toInt : ℤ) : ℝ) : EReal) = 0
  simp

/-- The word for minus one is below zero. -/
theorem minus_one_lt : Ideal.ofBits FTy.f32 0xBF800000#32 < 0 := by
  have h : Ideal.ofBits FTy.f32 0xBF800000#32 = ((-(1 : ℝ)) : EReal) := by
    simp [Ideal.ofBits, Ideal.ieee, -EReal.coe_mul, -EReal.coe_neg]; norm_num
  rw [h]
  exact EReal.coe_neg'.mpr (by norm_num)

/-- A candidate that is a detection has its score for its entry. -/
theorem vals_of_valid (b : Fin 8) (i : Fin 1000) (h : valid A0 A1 A2 b i) : vals A0 A1 A2 b i = cscore A0 A1 A2 b i := by
  unfold valid vals flat masked at h
  unfold vals flat masked cscore
  rw [Scalar.select] at h ⊢
  split at h
  · rename_i e
    rw [if_pos e]
    rfl
  · exact absurd h (not_lt.2 minus_one_lt.le)

/-- A detection's entry is its candidate's score. -/
theorem left_of_found (b : Fin 8) (i : Fin 100) (h : found A0 A1 A2 b i) :
    left A0 A1 A2 (ix2 b (pick A0 A1 A2 b i)) = cscore A0 A1 A2 b (pick A0 A1 A2 b i) := by
  unfold found left at h
  unfold left
  split at h
  · rename_i e
    rw [if_pos e]
    exact vals_of_valid A0 A1 A2 _ _ e.2
  · exact absurd h (not_lt.2 minus_one_lt.le)

end Cert.Nms
end
-- ==== Proof.Words.lean ====
/- Dividing an entry's number by the number of classes, as both programs' words do it. -/
module

public import proofs.«01_k».proof.Proof.Spec
public import Idealize.ShloMosaic.Lib.Routing.Words

@[expose] public section

namespace Cert.Nms

open Idealize.ShloMosaic

/-- Division rounding down by eighty, of a small word that is not negative: the quotient is never corrected. -/
theorem floor_div_80 (q : ℕ) (hq : q < 698560) :
    Scalar.select
      (IntOp.andi
        (IntOp.cmpi CmpIPredicate.ne (if BitVec.ofNat 32 q = 0 then 0 else if (BitVec.ofNat 32 q).msb = true then -1 else 1)
          (if (80#32 : BitVec 32) = 0 then (0 : BitVec 32) else if (80#32 : BitVec 32).msb = true then -1 else 1))
        (IntOp.cmpi CmpIPredicate.ne (IntOp.remsi ArithUnit.host (BitVec.ofNat 32 q) 80#32) 0#32))
      (IntOp.subi (IntOp.divsi ArithUnit.host (BitVec.ofNat 32 q) 80#32) 1#32)
      (IntOp.divsi ArithUnit.host (BitVec.ofNat 32 q) 80#32) = BitVec.ofNat 32 (q / 80) := by
  rw [Routing.divsi_word .host (a := q) (b := 80) (by omega) (by omega) (by omega),
    Routing.remsi_word .host (a := q) (b := 80) (by omega) (by omega) (by omega)]
  by_cases h : q = 0
  · subst h; decide
  · have h1 : BitVec.ofNat 32 q ≠ 0 := fun e => h (by have := congrArg BitVec.toNat e; simp at this; omega)
    have h2 : (BitVec.ofNat 32 q).msb = false := by
      rw [BitVec.msb_eq_decide, BitVec.toNat_ofNat]
      simp; omega
    rw [if_neg h1, h2]
    have h3 : ∀ (c : BitVec 1), IntOp.andi (IntOp.cmpi CmpIPredicate.ne (if (false : Bool) = true then (-1 : BitVec 32) else 1)
        (if (80#32 : BitVec 32) = 0 then (0 : BitVec 32) else if (80#32 : BitVec 32).msb = true then -1 else 1)) c = 0#1 := by decide
    rw [h3]
    rfl

/-- The remainder of rounding down by eighty, of a small word that is not negative. -/
theorem floor_rem_80 (q : ℕ) (hq : q < 698560) (d : BitVec 32) (hd : d = 80#32) :
    Scalar.select
      (IntOp.andi
        (IntOp.cmpi CmpIPredicate.ne (IntOp.cmpi CmpIPredicate.slt (IntOp.remsi ArithUnit.host (BitVec.ofNat 32 q) d) 0#32)
          (IntOp.cmpi CmpIPredicate.slt d 0#32))
        (IntOp.cmpi CmpIPredicate.ne (IntOp.remsi ArithUnit.host (BitVec.ofNat 32 q) d) 0#32))
      (IntOp.addi (IntOp.remsi ArithUnit.host (BitVec.ofNat 32 q) d) d)
      (IntOp.remsi ArithUnit.host (BitVec.ofNat 32 q) d) = BitVec.ofNat 32 (q % 80) := by
  subst hd
  rw [Routing.remsi_word .host (a := q) (b := 80) (by omega) (by omega) (by omega)]
  have h : ∀ r : Fin 80, Scalar.select
      (IntOp.andi
        (IntOp.cmpi CmpIPredicate.ne (IntOp.cmpi CmpIPredicate.slt (BitVec.ofNat 32 r.val) 0#32) (IntOp.cmpi CmpIPredicate.slt 80#32 0#32))
        (IntOp.cmpi CmpIPredicate.ne (BitVec.ofNat 32 r.val) 0#32))
      (IntOp.addi (BitVec.ofNat 32 r.val) 80#32) (BitVec.ofNat 32 r.val) = BitVec.ofNat 32 r.val := by decide
  exact h ⟨q % 80, by omega⟩

end Cert.Nms
-- ==== Proof.KHost.lean ====
/- The kernel's host operations, read stage by stage: what each stage leaves in the arrays later stages use. -/
module

public import proofs.«01_k».proof.Proof.Score
public import proofs.«01_k».proof.Proof.Cand
public import Idealize.ShloMosaic.Lib.StableHlo.ReadAt
public import Idealize.ShloMosaic.Lib.StableHlo.RunRead
public import proofs.«01_k».proof.Proof.Words

@[expose] public section

set_option maxRecDepth 16384

noncomputable section

namespace Cert.KernelIdeal.Gen

open Idealize.ShloMosaic Idealize.ShloMosaic.TcCoe Cert.Nms Idealize.ShloMosaic.Tactic
open StableHlo (after)

variable (V : Valuation τ sig (Elt Ideal))

/-- The kernel's flattened scores, read as the best thousand of each row: the values. -/
theorem read_values (x : FVec Ideal (s3 8 8732 80) .f32) (h : V (Proc.devRef .tc main_v0_0) = x) :
    (after hostOps1 V (Proc.devRef .tc main_values) : FVec Ideal (s2 8 1000) .f32)
      = (Host.topK (s2 8 1000) 1 (FloatOps.cmpfTotal .gt) (shapeCast (s2 8 698560) x shapeCasts_S8x8732x80_S8x698560) fits_scores).1 := by
  rw [← h]
  after_results
  rfl

/-- The same, the positions. -/
theorem read_indices (x : FVec Ideal (s3 8 8732 80) .f32) (h : V (Proc.devRef .tc main_v0_0) = x) :
    (after hostOps1 V (Proc.devRef .tc main_indices) : IVec (s2 8 1000) 32)
      = (Host.topK (s2 8 1000) 1 (FloatOps.cmpfTotal .gt) (shapeCast (s2 8 698560) x shapeCasts_S8x8732x80_S8x698560) fits_scores).2 := by
  rw [← h]
  after_results
  rfl

/-- The number of classes, before the quotient. -/
theorem read_c : after hostOps1 V (Proc.devRef .tc main_c) = constantI s0 32 80#32 := by
  after_results

/-- The number of classes, before the remainder. -/
theorem read_c_0 : after hostOps1_2 V (Proc.devRef .tc main_c_0) = constantI s0 32 80#32 := by
  after_results

/-- The quotient by the number of classes: the prior. -/
theorem read_div (ix : IVec (s2 8 1000) 32) (q : ℕ) (hq : q < 698560) (b : Fin 8) (i : Fin 1000) (hI : V (Proc.devRef .tc main_indices) = ix)
    (hc : V (Proc.devRef .tc main_c) = constantI s0 32 80#32) (h : ix (ix2 b i) = BitVec.ofNat 32 q) :
    (after hostOps1_1 V (Proc.devRef .tc main_v2) : IVec (s2 8 1000) 32) (ix2 b i) = BitVec.ofNat 32 (q / 80) := by
  after_reads_at
  simp only [id]
  rw [hI, hc, h]
  exact floor_div_80 q hq

/-- The remainder by the number of classes: the class. -/
theorem read_rem (ix : IVec (s2 8 1000) 32) (q : ℕ) (hq : q < 698560) (b : Fin 8) (i : Fin 1000) (hI : V (Proc.devRef .tc main_indices) = ix)
    (hc : V (Proc.devRef .tc main_c_0) = constantI s0 32 80#32) (h : ix (ix2 b i) = BitVec.ofNat 32 q) :
    (after hostOps1_3 V (Proc.devRef .tc main_v3) : IVec (s2 8 1000) 32) (ix2 b i) = BitVec.ofNat 32 (q % 80) := by
  after_reads_at
  simp only [id]
  rw [hI, hc, h]
  exact floor_rem_80 q hq _ rfl

/-- The label: one more than the class. -/
theorem read_label (q : ℕ) (b : Fin 8) (i : Fin 1000) (h : (V (Proc.devRef .tc main_v3) : IVec (s2 8 1000) 32) (ix2 b i) = BitVec.ofNat 32 q) :
    (after hostOps1_4 V (Proc.devRef .tc main_v5) : IVec (s2 8 1000) 32) (ix2 b i) = BitVec.ofNat 32 (1 + q) := by
  after_reads_at
  rw [h]
  exact (BitVec.ofNat_add q 1).symm.trans (congrArg _ (Nat.add_comm q 1))

/-- The priors as a column. -/
theorem read_places (b : Fin 8) (i : Fin 1000) :
    (after hostOps1_4 V (Proc.devRef .tc main_v6) : IVec (s3 8 1000 1) 32) (ix3 b i 0) = (V (Proc.devRef .tc main_v2) : IVec (s2 8 1000) 32) (ix2 b i) := by
  after_reads_at

/-- The candidates' boxes: the rows at the priors. -/
theorem read_cbox (x : FVec Ideal (s3 8 8732 4) .f32) (q : Fin 8732) (b : Fin 8) (i : Fin 1000) (k : Fin 4) (hx : V (Proc.devRef .tc main_v0_1) = x)
    (h : (V (Proc.devRef .tc main_v6) : IVec (s3 8 1000 1) 32) (ix3 b i 0) = BitVec.ofNat 32 q.val) :
    (after hostOps1_5 V (Proc.devRef .tc main_v7) : FVec Ideal (s3 8 1000 4) .f32) (ix3 b i k) = x (ix3 b q k) := by
  have e : (after hostOps1_5 V (Proc.devRef .tc main_v7) : FVec Ideal (s3 8 1000 4) .f32)
      = takeRows bcast_S_S8x1000x1 bcast_S1_S1x1x1_2 bcast_S1x1x1_S8x1000x1_0_1_2 reducesTo_S8x1000x1_S8x1000_d2 h_S_ bcast_S8x1000_S8x1000x4_0_1
          gather_S8x8732x4_S8x1000x1_S8x1000x4_2_1_0_0_1_2_114 8732#32 (BitVec.ofNat 32 8731)
          (broadcastInDim (s3 8 1000 4) ![] bcast_S_S8x1000x4 (constant s0 .f32 0x7FC00000#32)) x (V (Proc.devRef .tc main_v6)) := by
    rw [← hx]
    after_results
    rfl
  rw [e]
  exact takeRows_apply _ _ _ _ _ _ _ rfl rfl rfl rfl rfl rfl _ 8731 _ _ _ _ _ _ q (by decide) rfl h

/-- Which candidates count, as bits. -/
theorem read_valid (x : EReal) (b : Fin 8) (i : Fin 1000) (h : (V (Proc.devRef .tc main_values) : FVec Ideal (s2 8 1000) .f32) (ix2 b i) = x) :
    (after hostOps1_6 V (Proc.devRef .tc main_v9) : IVec (s2 8 1000) 1) (ix2 b i) = BitVec.ofBool (decide (0 < x)) := by
  after_reads_at
  rw [h]

/-- The boxes moved apart by label. -/
theorem read_moved (r : Fin 1000 → Fin 4 → EReal) (l : BitVec 32) (b : Fin 8) (i : Fin 1000) (k : Fin 4)
    (hr : ∀ i k, (V (Proc.devRef .tc main_v7) : FVec Ideal (s3 8 1000 4) .f32) (ix3 b i k) = r i k)
    (hl : (V (Proc.devRef .tc main_v5) : IVec (s2 8 1000) 32) (ix2 b i) = l) :
    (after hostOps1_6 V (Proc.devRef .tc main_v20) : FVec Ideal (s3 8 1000 4) .f32) (ix3 b i k)
      = r i k + FloatOps.sitofp (F := Ideal) .f32 l * (Finset.fold max lowest (fun x : Fin 1000 × Fin 4 => r x.1 x.2) Finset.univ + 1) := by
  after_reads_at
  simp only [hr, hl]
  rfl

/-- The moved boxes, padded to whole blocks. -/
theorem read_padded (b : Fin 8) (j : Fin 1000) (k : Fin 4) :
    (after hostOps1_7 V (Proc.devRef .tc main_v21) : FVec Ideal (s3 8 1024 4) .f32) (ix3 b ⟨j.val, by omega⟩ k)
      = (V (Proc.devRef .tc main_v20) : FVec Ideal (s3 8 1000 4) .f32) (ix3 b j k) := by
  after_reads_at

/-- The valid bits as numbers. -/
theorem read_flags (p : Prop) [Decidable p] (b : Fin 8) (i : Fin 1000) (h : (V (Proc.devRef .tc main_v9) : IVec (s2 8 1000) 1) (ix2 b i) = BitVec.ofBool (decide p)) :
    (after hostOps1_8 V (Proc.devRef .tc main_v22) : FVec Ideal (s2 8 1000) .f32) (ix2 b i) = flag p := by
  after_reads_at
  rw [h, bit_flag]

/-- The number the padding holds. -/
theorem read_c_5 : after hostOps1_8 V (Proc.devRef .tc main_c_5) = constantI s0 32 0#32 := by
  after_results

/-- The valid flags, padded with zeros. -/
theorem read_flags_padded (x : Fin 1000 → EReal) (b : Fin 8) (j : Fin 1024)
    (hx : ∀ i, (V (Proc.devRef .tc main_v22) : FVec Ideal (s2 8 1000) .f32) (ix2 b i) = x i) (hc : V (Proc.devRef .tc main_c_5) = constantI s0 32 0#32) :
    (after hostOps1_9 V (Proc.devRef .tc main_v23) : FVec Ideal (s2 8 1024) .f32) (ix2 b j)
      = if h : j.val < 1000 then x ⟨j.val, h⟩ else 0 := by
  after_reads_at
  rw [hc]
  split
  · exact hx _
  · exact word_zero

/-- The transposed boxes. -/
theorem read_turned (b : Fin 8) (k : Fin 4) (j : Fin 1024) :
    (after hostOps1_10 V (Proc.devRef .tc main_v24) : FVec Ideal (s3 8 4 1024) .f32) (ix3 b k j)
      = (V (Proc.devRef .tc main_v21) : FVec Ideal (s3 8 1024 4) .f32) (ix3 b j k) := by
  after_reads_at

/-- The flags as a column. -/
theorem read_column (b : Fin 8) (j : Fin 1024) :
    (after hostOps1_10 V (Proc.devRef .tc main_v25) : FVec Ideal (s3 8 1024 1) .f32) (ix3 b j 0)
      = (V (Proc.devRef .tc main_v23) : FVec Ideal (s2 8 1024) .f32) (ix2 b j) := by
  after_reads_at

/-- The flags as a row. -/
theorem read_row (b : Fin 8) (j : Fin 1024) :
    (after hostOps1_10 V (Proc.devRef .tc main_v26) : FVec Ideal (s3 8 1 1024) .f32) (ix3 b 0 j)
      = (V (Proc.devRef .tc main_v23) : FVec Ideal (s2 8 1024) .f32) (ix2 b j) := by
  after_reads_at

/-- A suppression bit joined with its valid bit. -/
theorem read_alive (x : EReal) (p : Prop) [Decidable p] (b : Fin 8) (i : Fin 1000)
    (hx : (V (Proc.devRef .tc main_v27) : FVec Ideal (s3 8 1 1024) .f32) (ix3 b 0 ⟨i.val, by omega⟩) = x)
    (hp : (V (Proc.devRef .tc main_v9) : IVec (s2 8 1000) 1) (ix2 b i) = BitVec.ofBool (decide p)) :
    (after hostOps2 V (Proc.devRef .tc main_v32) : IVec (s2 8 1000) 1) (ix2 b i) = BitVec.ofBool (decide (0 < x ∧ p)) := by
  have e : (after hostOps2 V (Proc.devRef .tc main_v32) : IVec (s2 8 1000) 1) (ix2 b i)
      = IntOp.andi (BitVec.ofBool (decide (0 < x))) ((V (Proc.devRef .tc main_v9) : IVec (s2 8 1000) 1) (ix2 b i)) := by
    after_reads_at
    rw [← hx]
  rw [e, hp, WordCmp.andi_ofBool, Bool.decide_and]

/-- The number for a suppressed candidate. -/
theorem read_cst_7 : after hostOps2 V (Proc.devRef .tc main_cst_7) = constant (F := Ideal) s0 .f32 0xBF800000#32 := by
  after_results

/-- The candidates' scores, minus one where suppressed. -/
theorem read_left (x : EReal) (p : Prop) [Decidable p] (b : Fin 8) (i : Fin 1000)
    (hc : V (Proc.devRef .tc main_cst_7) = constant (F := Ideal) s0 .f32 0xBF800000#32)
    (hx : (V (Proc.devRef .tc main_values) : FVec Ideal (s2 8 1000) .f32) (ix2 b i) = x)
    (hp : (V (Proc.devRef .tc main_v32) : IVec (s2 8 1000) 1) (ix2 b i) = BitVec.ofBool (decide p)) :
    (after hostOps2_1 V (Proc.devRef .tc main_v33) : FVec Ideal (s2 8 1000) .f32) (ix2 b i) = if p then x else Ideal.ofBits .f32 0xBF800000#32 := by
  after_reads_at
  simp only [id]
  rw [hp, select_decide, hx, hc]
  rfl

/-- The best hundred of what remains: the values. -/
theorem read_values_8 (x : FVec Ideal (s2 8 1000) .f32) (h : V (Proc.devRef .tc main_v33) = x) :
    (after hostOps2_2 V (Proc.devRef .tc main_values_8) : FVec Ideal (s2 8 100) .f32)
      = (Host.topK (s2 8 100) 1 (FloatOps.cmpfTotal .gt) x fits_kept).1 := by
  rw [← h]
  after_results

/-- The same, the positions. -/
theorem read_indices_9 (x : FVec Ideal (s2 8 1000) .f32) (h : V (Proc.devRef .tc main_v33) = x) :
    (after hostOps2_2 V (Proc.devRef .tc main_indices_9) : IVec (s2 8 100) 32)
      = (Host.topK (s2 8 100) 1 (FloatOps.cmpfTotal .gt) x fits_kept).2 := by
  rw [← h]
  after_results

/-- Which of them are detections. -/
theorem read_found (x : FVec Ideal (s2 8 1000) .f32) (h : V (Proc.devRef .tc main_v33) = x) (b : Fin 8) (i : Fin 100) :
    (after hostOps2_2 V (Proc.devRef .tc main_v35) : IVec (s2 8 100) 1) (ix2 b i) = BitVec.ofBool (decide (0 < x (ix2 b (best x fits_kept b i)))) := by
  rw [← best_value x fits_kept b i, ← h]
  after_reads_at

/-- The same as a column. -/
theorem read_found_column (x : FVec Ideal (s2 8 1000) .f32) (h : V (Proc.devRef .tc main_v33) = x) (b : Fin 8) (i : Fin 100) :
    (after hostOps2_2 V (Proc.devRef .tc main_v36) : IVec (s3 8 100 1) 1) (ix3 b i 0) = BitVec.ofBool (decide (0 < x (ix2 b (best x fits_kept b i)))) := by
  rw [← best_value x fits_kept b i, ← h]
  after_reads_at

/-- The positions as a column. -/
theorem read_picks (x : FVec Ideal (s2 8 1000) .f32) (h : V (Proc.devRef .tc main_v33) = x) (b : Fin 8) (i : Fin 100) :
    (after hostOps2_2 V (Proc.devRef .tc main_v37) : IVec (s3 8 100 1) 32) (ix3 b i 0) = BitVec.ofNat 32 (best x fits_kept b i).val := by
  rw [← best_index x fits_kept b i, ← h]
  after_reads_at

/-- The detections' boxes: the candidates' at the positions. -/
theorem read_fbox (q : Fin 1000) (b : Fin 8) (i : Fin 100) (k : Fin 4)
    (h : (V (Proc.devRef .tc main_v37) : IVec (s3 8 100 1) 32) (ix3 b i 0) = BitVec.ofNat 32 q.val) :
    (after hostOps2_3 V (Proc.devRef .tc main_v38) : FVec Ideal (s3 8 100 4) .f32) (ix3 b i k) = (V (Proc.devRef .tc main_v7) : FVec Ideal (s3 8 1000 4) .f32) (ix3 b q k) := by
  have e : (after hostOps2_3 V (Proc.devRef .tc main_v38) : FVec Ideal (s3 8 100 4) .f32)
      = takeRows bcast_S_S8x100x1 bcast_S1_S1x1x1_2 bcast_S1x1x1_S8x100x1_0_1_2 reducesTo_S8x100x1_S8x100_d2 h_S_ bcast_S8x100_S8x100x4_0_1
          gather_S8x1000x4_S8x100x1_S8x100x4_2_1_0_0_1_2_114 1000#32 (BitVec.ofNat 32 999)
          (broadcastInDim (s3 8 100 4) ![] bcast_S_S8x100x4 (constant s0 .f32 0x7FC00000#32)) (V (Proc.devRef .tc main_v7)) (V (Proc.devRef .tc main_v37)) := by
    after_results
    rfl
  rw [e]
  exact takeRows_apply _ _ _ _ _ _ _ rfl rfl rfl rfl rfl rfl _ 999 _ _ _ _ _ _ q (by decide) rfl h

/-- The number where there is no detection, for boxes. -/
theorem read_cst_11 : after hostOps2_4 V (Proc.devRef .tc main_cst_11) = constant (F := Ideal) s0 .f32 0x00000000#32 := by
  after_results

/-- The detections' boxes, nothing where there is none. -/
theorem read_outBoxes (x : EReal) (p : Prop) [Decidable p] (b : Fin 8) (i : Fin 100) (k : Fin 4)
    (hc : V (Proc.devRef .tc main_cst_11) = constant (F := Ideal) s0 .f32 0x00000000#32)
    (hx : (V (Proc.devRef .tc main_v38) : FVec Ideal (s3 8 100 4) .f32) (ix3 b i k) = x)
    (hp : (V (Proc.devRef .tc main_v36) : IVec (s3 8 100 1) 1) (ix3 b i 0) = BitVec.ofBool (decide p)) :
    (after hostOps2_5 V (Proc.devRef .tc main_v39) : FVec Ideal (s3 8 100 4) .f32) (ix3 b i k) = if p then x else 0 := by
  after_reads_at
  simp only [id]
  rw [hp, select_decide, hx, hc]
  exact if_congr Iff.rfl rfl Ideal.ofBits_zero_f32

/-- The number where there is no detection, for scores. -/
theorem read_cst_12 : after hostOps2_6 V (Proc.devRef .tc main_cst_12) = constant (F := Ideal) s0 .f32 0x00000000#32 := by
  after_results

/-- The detections' scores, nothing where there is none. -/
theorem read_outScores (x : EReal) (p : Prop) [Decidable p] (b : Fin 8) (i : Fin 100)
    (hc : V (Proc.devRef .tc main_cst_12) = constant (F := Ideal) s0 .f32 0x00000000#32)
    (hx : (V (Proc.devRef .tc main_values_8) : FVec Ideal (s2 8 100) .f32) (ix2 b i) = x)
    (hp : (V (Proc.devRef .tc main_v35) : IVec (s2 8 100) 1) (ix2 b i) = BitVec.ofBool (decide p)) :
    (after hostOps2_7 V (Proc.devRef .tc main_v40) : FVec Ideal (s2 8 100) .f32) (ix2 b i) = if p then x else 0 := by
  after_reads_at
  simp only [id]
  rw [hp, select_decide, hx, hc]
  exact if_congr Iff.rfl rfl Ideal.ofBits_zero_f32

/-- The detections' labels: the candidates' at the positions. -/
theorem read_flab (q : Fin 1000) (b : Fin 8) (i : Fin 100)
    (h : (V (Proc.devRef .tc main_indices_9) : IVec (s2 8 100) 32) (ix2 b i) = BitVec.ofNat 32 q.val) :
    (after hostOps2_8 V (Proc.devRef .tc main_v41) : IVec (s2 8 100) 32) (ix2 b i) = (V (Proc.devRef .tc main_v5) : IVec (s2 8 1000) 32) (ix2 b q) := by
  have e : (after hostOps2_8 V (Proc.devRef .tc main_v41) : IVec (s2 8 100) 32)
      = takeCells bcast_S_S8x100 shapeCasts_S8x100_S8x100x1 bcast_S_S8x100x1 bcast_S1_S1x1x1_2 bcast_S1x1x1_S8x100x1_0_1_2 reducesTo_S8x100x1_S8x100_d2 h_S_
          gather_S8x1000_S8x100x1_S8x100_n_1_0_0_1_2_11 1000#32 (BitVec.ofNat 32 999)
          (broadcastInDim (s2 8 100) ![] bcast_S_S8x100 (constantI s0 32 2147483648#32)) (V (Proc.devRef .tc main_v5)) (V (Proc.devRef .tc main_indices_9)) := by
    after_results
    rfl
  rw [e]
  exact takeCells_apply _ _ _ _ _ _ _ _ rfl rfl rfl rfl rfl rfl _ 999 _ _ _ _ _ q (by decide) rfl h

/-- The label where there is no detection. -/
theorem read_c_13 : after hostOps2_9 V (Proc.devRef .tc main_c_13) = constantI s0 32 0#32 := by
  after_results

/-- The detections' labels, zero where there is none. -/
theorem read_outLabels (x : BitVec 32) (p : Prop) [Decidable p] (b : Fin 8) (i : Fin 100)
    (hc : V (Proc.devRef .tc main_c_13) = constantI s0 32 0#32)
    (hx : (V (Proc.devRef .tc main_v41) : IVec (s2 8 100) 32) (ix2 b i) = x)
    (hp : (V (Proc.devRef .tc main_v35) : IVec (s2 8 100) 1) (ix2 b i) = BitVec.ofBool (decide p)) :
    (after hostOps2_10 V (Proc.devRef .tc main_v42) : IVec (s2 8 100) 32) (ix2 b i) = if p then x else 0#32 := by
  after_reads_at
  simp only [id]
  rw [hp, select_decide, hx, hc]
  rfl

/-- The detections' boxes, scaled to their image. -/
theorem read_scaled (x : FVec Ideal (s3 8 100 4) .f32) (t : IVec (s2 8 2) 32) (hx : V (Proc.devRef .tc main_v39) = x) (ht : V (Proc.devRef .tc main_arg3) = t)  :
    (after hostOps2_11 V (Proc.devRef .tc main_v48) : FVec Ideal (s3 8 100 4) .f32) = mulf x (scales t) := by
  rw [← hx, ← ht]
  after_results
  rfl

end Cert.KernelIdeal.Gen
end
-- ==== Proof.Nms.lean ====
/- What the second kernel region leaves: one keep flag per candidate. -/
module

public import proofs.«01_k».proof.Proof.KRun
public import proofs.«01_k».proof.Proof.Spec
public import Idealize.ShloMosaic.Lib.Pipeline.ValueKit
public import Idealize.ShloMosaic.Lib.Pipeline.ReadBack
public import Idealize.ShloMosaic.Lib.WritesUnit
public import Idealize.ShloMosaic.Lib.WordCmp

@[expose] public section

set_option maxRecDepth 16384

noncomputable section

namespace Cert.KernelIdeal.Gen

open Idealize.ShloMosaic Idealize.ShloMosaic.TcCoe Idealize.ShloMosaic.Tactic Cert.Nms
open Idealize.SL Idealize.SL.RA Idealize.SL.BI
open Idealize.ShloMosaic.Rounds
open Idealize.ShloMosaic.Pipeline (Dat Cfg Window BodyObligation cellOf)

/-- One trip on a scratch holding `g`. -/
theorem trip_eq (c : Dev nD) (i : grid1.Coords) (arg1 : Memref sig .tc .vmem S1x1024x4 .f32) (harg1 : arg1.IsWhole) (arg2 : Memref sig .tc .vmem S1x4x1024 .f32) (harg2 : arg2.IsWhole) (arg3 : Memref sig .tc .vmem S1x1024x1 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .f32) (harg6 : arg6.IsWhole)
    (X : BufTy.Contents (Elt Ideal) arg6.view.ty) (k : Fin k1_t1_loop.trips) (acc : FVec Ideal S1x1024 .f32) :
    tripR_k1_t1 (F := Ideal) Variants.none c none i arg1 harg1 arg2 harg2 arg3 harg3 arg4 harg4 arg5 harg5 arg6 harg6 X k acc
      = k1_pay2 k acc (arg6.view.readAt (Elt Ideal) (Rect.unit (s := S1024x1024) (k1_off1 k) S1x1024.size (k1_off1_inb k)).toLoadRect X) := by
  unfold tripR_k1_t1 trip_k1_t1
  rfl

/-- The flags the body stores are the carried ones, and those it starts from its block's. -/
theorem pay3_apply (x : FVec Ideal S1x1024 .f32) (j : Fin 1024) : k1_pay3 x (ix3 0 0 j) = x (ix2 0 j) := by
  unfold k1_pay3
  pointwise
/-- The kernel's row of flags that it carries through the loop is the row it loads. -/
theorem pay7_apply (x : Vec Ideal S1x1x1024 .f32) (j : Fin 1024) : k1_pay7 x (ix2 0 j) = x (ix3 0 0 j) := by
  unfold k1_pay7
  pointwise

/-- The scratch the body fills, cell by cell: the overlap of two candidates where both count. -/
theorem pay_overlap (x0 : Vec Ideal S1x1024x4 .f32) (x1 : Vec Ideal S1x4x1024 .f32) (x2 : Vec Ideal S1x1024x1 .f32) (x3 : Vec Ideal S1x1x1024 .f32) (i j : Fin 1024) :
    k1_pay1 (k1_pay6 x2) (k1_pay7 x3) (k1_pay9 x0) (k1_pay13 x1) (k1_pay16 x0) (k1_pay17 x1) (k1_pay18 x0 x1) (k1_pay19 x0 x1) (ix2 i j)
      = overlap (fun a => x0 (ix3 0 i a)) (fun a => x1 (ix3 0 a j)) * (x2 (ix3 0 i 0) * x3 (ix3 0 0 j)) := by
  unfold k1_pay1 k1_pay19 k1_pay18 k1_pay17 k1_pay16 k1_pay15 k1_pay14 k1_pay13 k1_pay12 k1_pay11 k1_pay10 k1_pay9 k1_pay8 k1_pay7 k1_pay6 k1_pay5 k1_pay4
  pointwise
  rfl

/-- The induction variable's word. -/
theorem iv_word (k : ℕ) : Scf.iv 0#32 1#32 k = BitVec.ofNat 32 k := by
  unfold Scf.iv
  simp

/-- The flag the body sums out of its row is candidate `k`'s. -/
theorem sum_flag (k : ℕ) (hk : k < 1000) (f : Fin 1024 → EReal) :
    ∑ _x : Fin 1, ∑ x : Fin 1024, Scalar.select (IntOp.cmpi CmpIPredicate.eq (BitVec.ofNat 32 x.val) (Scf.iv 0#32 1#32 k)) (f x) 0 = f ⟨k, by omega⟩ := by
  rw [Fin.sum_univ_one, Finset.sum_eq_single (⟨k, by omega⟩ : Fin 1024)]
  · rw [iv_word, WordCmp.cmpi_eq_ofNat (w := 32) (by omega) (by omega), select_decide, if_pos rfl]
  · intro x _ hx
    have h : ¬ x.val = k := fun e => hx (Fin.ext e)
    rw [iv_word, WordCmp.cmpi_eq_ofNat (w := 32) (by omega) (by omega), select_decide, if_neg h]
  · intro h; exact absurd (Finset.mem_univ _) h

/-- One trip's keep flags, one by one: candidate `k`, if it is kept, drops every later one it overlaps too much. -/
theorem pay_trip (k : Fin k1_t1_loop.trips) (hk : k.val < 1000) (acc row : FVec Ideal S1x1024 .f32) (j : Fin 1024) :
    k1_pay2 k acc row (ix2 0 j) = (open Classical in if (Ideal.ofBits FTy.f32 0x3EE66666#32 < row (ix2 0 j) ∧ k.val < j.val) ∧ 0 < acc (ix2 0 ⟨k.val, by omega⟩) then 0 else acc (ix2 0 j)) := by
  classical
  unfold k1_pay2
  pointwise
  rw [sum_flag k.val hk fun x => acc (ix2 0 x), iv_word, WordCmp.cmpi_sgt_ofNat (w := 32) (by omega) (by omega), WordCmp.andi_ofBool, WordCmp.andi_ofBool, ← Bool.decide_and,
    ← Bool.decide_and, select_decide]

/-- What trip `k` reads of the scratch: row `k`. -/
theorem scratch_row (p : Vec Ideal S1024x1024 .f32) (k : Fin k1_t1_loop.trips) (j : Fin 1024) (hk : k.val < 1024) :
    scM1_0.view.readAt (Elt Ideal) (Rect.unit (s := S1024x1024) (k1_off1 k) S1x1024.size (k1_off1_inb k)).toLoadRect
      ((View.whole cc1_scratch0).writes (Elt Ideal) (View.whole cc1_scratch0).junk [⟨Rect.unit (s := S1024x1024) ![0, 0] ![1024, 1024] inb_S1024x1024_S1024x1024_0_0, p⟩]) (ix2 0 j)
      = p (ix2 ⟨k.val, hk⟩ j) := by
  rw [View.readAt_apply]
  refine View.read_writes_cons_unit_of_mem (View.whole cc1_scratch0) _ _ p [] _ (ix2 ⟨k.val, hk⟩ j) rfl fun a => ?_
  have e : ∀ o : Fin 2 → ℕ, o = ![k.val, 0] → ∀ h, ((Rect.unit (s := S1024x1024) o S1x1024.size h).idx (ix2 0 j) a).val = (![0, 0] : Fin 2 → ℕ) a + ((ix2 (⟨k.val, hk⟩ : Fin 1024) j : (s2 1024 1024).Idx) a).val := by
    rintro o rfl h
    fin_cases a
    · show k.val + 1 * 0 = 0 + k.val
      omega
    · show 0 + 1 * j.val = 0 + j.val
      omega
  exact e _ (k1_off1_eq k) _

variable (V : (c : Dev nD) → (b : Ref sig .tc) → Buf (Elt Ideal) ((c : Thread nD τ).loc b))

open Classical in
/-- The keep flags of one image after `n` trips: on the candidates, greedy suppression's; past them, nothing. -/
theorem keep_trips (c : Dev nD) (i : grid1.Coords) (arg1 : Memref sig .tc .vmem S1x1024x4 .f32) (harg1 : arg1.IsWhole) (arg2 : Memref sig .tc .vmem S1x4x1024 .f32) (harg2 : arg2.IsWhole) (arg3 : Memref sig .tc .vmem S1x1024x1 .f32) (harg3 : arg3.IsWhole) (arg4 : Memref sig .tc .vmem S1x1x1024 .f32) (harg4 : arg4.IsWhole) (arg5 : Memref sig .tc .vmem S1x1x1024 .f32) (harg5 : arg5.IsWhole) (h6 : scM1_0.IsWhole)
    (p : Vec Ideal S1024x1024 .f32) (init : FVec Ideal S1x1024 .f32) (v : Fin 1000 → Prop) (r : Fin 1000 → Fin 4 → EReal)
    (hi : ∀ j : Fin 1024, init (ix2 0 j) = if h : j.val < 1000 then flag (v ⟨j.val, h⟩) else 0)
    (hp : ∀ a j : Fin 1000, p (ix2 ⟨a.val, by omega⟩ ⟨j.val, by omega⟩) = overlapOf v r a j) (n : ℕ) (hn : n ≤ 1000) (j : Fin 1024) :
    st_k1_t1 Variants.none c none i arg1 harg1 arg2 harg2 arg3 harg3 arg4 harg4 arg5 harg5 scM1_0 h6
      ((View.whole cc1_scratch0).writes (Elt Ideal) (View.whole cc1_scratch0).junk [⟨Rect.unit (s := S1024x1024) ![0, 0] ![1024, 1024] inb_S1024x1024_S1024x1024_0_0, p⟩])
      init n (ix2 0 j) = if h : j.val < 1000 then flag (remains v r n ⟨j.val, h⟩) else 0 := by
  induction n generalizing j with
  | zero => rw [st_k1_t1_zero]; exact hi j
  | succ n ih =>
    have ht : n < k1_t1_loop.trips := by
      have : k1_t1_loop.trips = 1000 := by decide +kernel
      omega
    have e := st_k1_t1_succ (F := Ideal) Variants.none c none i arg1 harg1 arg2 harg2 arg3 harg3 arg4 harg4 arg5 harg5 scM1_0 h6
      ((View.whole cc1_scratch0).writes (Elt Ideal) (View.whole cc1_scratch0).junk [⟨Rect.unit (s := S1024x1024) ![0, 0] ![1024, 1024] inb_S1024x1024_S1024x1024_0_0, p⟩])
      init ⟨n, ht⟩
    rw [e, trip_eq, pay_trip ⟨n, ht⟩ (by show n < 1000; omega), scratch_row p ⟨n, ht⟩ j (by show n < 1024; omega), ih (by omega), ih (by omega)]
    rw [dif_pos (show n < 1000 by omega)]
    by_cases h : j.val < 1000
    · rw [dif_pos h, dif_pos h]
      have hq := hp ⟨n, by omega⟩ ⟨j.val, h⟩
      rw [show (ix2 (⟨(⟨n, ht⟩ : Fin k1_t1_loop.trips).val, by show n < 1024; omega⟩ : Fin 1024) j : (s2 1024 1024).Idx)
        = ix2 ⟨(⟨n, by omega⟩ : Fin 1000).val, by omega⟩ ⟨(⟨j.val, h⟩ : Fin 1000).val, by omega⟩ from rfl, hq]
      have hpos : ∀ q : Prop, (0 : EReal) < flag q ↔ q := fun q => by
        unfold flag
        by_cases hh : q <;> simp [hh]
      have hr : remains v r (n + 1) ⟨j.val, h⟩ ↔ remains v r n ⟨j.val, h⟩ ∧ ¬ ((Ideal.ofBits FTy.f32 0x3EE66666#32 < overlapOf v r ⟨n, by omega⟩ ⟨j.val, h⟩ ∧ n < j.val) ∧ remains v r n ⟨n, by omega⟩) := by
        show _ ∧ ¬ _ ↔ _
        refine and_congr_right fun _ => not_congr ⟨fun ⟨_, a, b, d⟩ => ⟨⟨a, b⟩, d⟩, fun ⟨⟨a, b⟩, d⟩ => ⟨by omega, a, b, d⟩⟩
      by_cases hs : (Ideal.ofBits FTy.f32 0x3EE66666#32 < overlapOf v r ⟨n, by omega⟩ ⟨j.val, h⟩ ∧ n < j.val) ∧ remains v r n ⟨n, by omega⟩
      · rw [if_pos ⟨hs.1, (hpos _).2 hs.2⟩]
        unfold flag
        rw [if_neg fun hh => (hr.1 hh).2 hs]
      · rw [if_neg fun a => hs ⟨a.1, (hpos _).1 a.2⟩]
        unfold flag
        exact if_congr ⟨fun a => hr.2 ⟨a, hs⟩, fun a => (hr.1 a).1⟩ rfl rfl
    · rw [dif_neg h, dif_neg h]
      exact ite_self 0

/-- Point `t` takes image `t` of every window. -/
theorem idx1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

/-- The blocks of a point, cell by cell. -/
theorem block_0 (c : Dev nD) (t : Fin cfg1.N) (ht : t.val < 8) (i : Fin 1024) (k : Fin 4) :
    iblk1 V c 0 t (ix3 0 i k) = (V c (Pipeline.arrRef spec1 0) : FVec Ideal (s3 8 1024 4) .f32) (ix3 ⟨t.val, ht⟩ i k) := by
  have hi := idx1 t
  blk_ext [iblk1, hi]
/-- The second operand's block is image `t` of the turned boxes. -/
theorem block_1 (c : Dev nD) (t : Fin cfg1.N) (ht : t.val < 8) (i : Fin 1024) (k : Fin 4) :
    iblk1 V c 1 t (ix3 0 k i) = (V c (Pipeline.arrRef spec1 1) : FVec Ideal (s3 8 4 1024) .f32) (ix3 ⟨t.val, ht⟩ k i) := by
  have hi := idx1 t
  blk_ext [iblk1, hi]
/-- The third operand's block is image `t` of the column of flags. -/
theorem block_2 (c : Dev nD) (t : Fin cfg1.N) (ht : t.val < 8) (i : Fin 1024) :
    iblk1 V c 2 t (ix3 0 i 0) = (V c (Pipeline.arrRef spec1 2) : FVec Ideal (s3 8 1024 1) .f32) (ix3 ⟨t.val, ht⟩ i 0) := by
  have hi := idx1 t
  blk_ext [iblk1, hi]
/-- The fourth operand's block is image `t` of the row of flags. -/
theorem block_3 (c : Dev nD) (t : Fin cfg1.N) (ht : t.val < 8) (i : Fin 1024) :
    iblk1 V c 3 t (ix3 0 0 i) = (V c (Pipeline.arrRef spec1 3) : FVec Ideal (s3 8 1 1024) .f32) (ix3 ⟨t.val, ht⟩ 0 i) := by
  have hi := idx1 t
  blk_ext [iblk1, hi]

/-- Two truth values as numbers multiply to both as a number. -/
theorem flag_mul (p q : Prop) [Decidable p] [Decidable q] [Decidable (p ∧ q)] : flag p * flag q = flag (p ∧ q) := by
  unfold flag
  by_cases hp : p <;> by_cases hq : q <;> simp [hp, hq]

open Classical in
/-- What the body leaves of one image's keep flags. -/
theorem keep_block (c : Dev nD) (t : Fin cfg1.N) (v : Fin 1000 → Prop) (r : Fin 1000 → Fin 4 → EReal)
    (h0 : ∀ (i : Fin 1000) (k : Fin 4), iblk1 V c 0 t (ix3 0 ⟨i.val, by omega⟩ k) = r i k)
    (h1 : ∀ (i : Fin 1000) (k : Fin 4), iblk1 V c 1 t (ix3 0 k ⟨i.val, by omega⟩) = r i k)
    (h2 : ∀ (i : Fin 1000), iblk1 V c 2 t (ix3 0 ⟨i.val, by omega⟩ 0) = flag (v i))
    (h3 : ∀ (j : Fin 1024), iblk1 V c 3 t (ix3 0 0 j) = if h : j.val < 1000 then flag (v ⟨j.val, h⟩) else 0) (j : Fin 1024) :
    outsAt1 V c t (ix3 0 0 j) = if h : j.val < 1000 then flag (survives v r ⟨j.val, h⟩) else 0 := by
  unfold survives outsAt1
  frame_open
  simp (disch := decide) only [↓ View.readCov_skip, ↓ View.readCov_cons_toLoadRect, ↓ View.readCov_fill]
  frame_out
  refine (pay3_apply _ j).trans ?_
  have hn : Scf.trips (0#32) (Scalar.addi 0#32 1000#32) 1#32 = 1000 := by decide +kernel
  rw [hn]
  refine keep_trips c _ _ _ _ _ _ _ _ _ _ _ _ _ _ v r (fun j => ?_) (fun a j => ?_) 1000 le_rfl j
  · rw [← h3 j]
    exact pay7_apply _ j
  · rw [pay_overlap, h2, h3, dif_pos j.isLt, flag_mul]
    unfold overlapOf
    simp only [h0, h1]

open Classical in
/-- The keep flags as one array. -/
def keepOf (v : Fin 8 → Fin 1000 → Prop) (r : Fin 8 → Fin 1000 → Fin 4 → EReal) : FVec Ideal (s3 8 1 1024) .f32 :=
  fun j => if h : (j 2).val < 1000 then flag (survives (v (j 0)) (r (j 0)) ⟨(j 2).val, h⟩) else 0

open Classical in
/-- One cell of the survival flags. -/
theorem keepOf_apply (v : Fin 8 → Fin 1000 → Prop) (r : Fin 8 → Fin 1000 → Fin 4 → EReal) (b : Fin 8) (j : Fin 1024) :
    keepOf v r (ix3 b 0 j) = if h : j.val < 1000 then flag (survives (v b) (r b) ⟨j.val, h⟩) else 0 := rfl

/-- The cell of the flags' array that a block's cell is. -/
theorem emb_4 (t : Fin cfg1.N) (ht : t.val < 8) (j : Fin 1024) :
    ((cfg1.win 4).blk t).view.emb (ix3 0 0 j) = (ix3 (⟨t.val, ht⟩ : Fin 8) 0 j : (s3 8 1 1024).Idx) := by
  obtain ⟨_, _, _, _, _, _, _, _, _, _, _, _, e0, e1, e2⟩ := idx1 t
  funext a; apply Fin.ext
  match a with
  | ⟨0, _⟩ => show win1_4.index t (0 : Fin 3) * 1 + 1 * 0 = t.val; omega
  | ⟨1, _⟩ => show win1_4.index t (1 : Fin 3) * 1 + 1 * 0 = 0; omega
  | ⟨2, _⟩ => show win1_4.index t (2 : Fin 3) * 1024 + 1 * j.val = j.val; omega

/-- The second region's keep flags, whole, over an entry that holds the boxes and validity of `r` and `v`. -/
theorem keep_arr (c : Dev nD) (v : Fin 8 → Fin 1000 → Prop) (r : Fin 8 → Fin 1000 → Fin 4 → EReal)
    (h0 : ∀ (b : Fin 8) (i : Fin 1000) (k : Fin 4), (V c (Pipeline.arrRef spec1 0) : FVec Ideal (s3 8 1024 4) .f32) (ix3 b ⟨i.val, by omega⟩ k) = r b i k)
    (h1 : ∀ (b : Fin 8) (i : Fin 1000) (k : Fin 4), (V c (Pipeline.arrRef spec1 1) : FVec Ideal (s3 8 4 1024) .f32) (ix3 b k ⟨i.val, by omega⟩) = r b i k)
    (h2 : ∀ (b : Fin 8) (i : Fin 1000), (V c (Pipeline.arrRef spec1 2) : FVec Ideal (s3 8 1024 1) .f32) (ix3 b ⟨i.val, by omega⟩ 0) = (open Classical in flag (v b i)))
    (h3 : ∀ (b : Fin 8) (j : Fin 1024), (V c (Pipeline.arrRef spec1 3) : FVec Ideal (s3 8 1 1024) .f32) (ix3 b 0 j) = (open Classical in if h : j.val < 1000 then flag (v b ⟨j.val, h⟩) else 0)) :
    ((dat1 V c).arrAt 4 cfg1.N : FVec Ideal (s3 8 1 1024) .f32) = keepOf v r := by
  refine (dat1 V c).arrAt_eq_of_covers 4 _ (by decide +kernel) fun t hf y => ?_
  rw [after1_4]
  have hy : ∀ y : S1x1x1024.Idx, ∃ j, y = ix3 0 0 j := fun y => ⟨y 2, by idx_vars y; obtain rfl : y0 = 0 := Subsingleton.elim _ _; obtain rfl : y1 = 0 := Subsingleton.elim _ _; rfl⟩
  obtain ⟨j, rfl⟩ := hy y
  have ht : t.val < 8 := t.isLt
  have hb := keep_block V c t (v ⟨t.val, ht⟩) (r ⟨t.val, ht⟩) (fun i k => (block_0 V c t ht _ k).trans (h0 _ i k)) (fun i k => (block_1 V c t ht _ k).trans (h1 _ i k))
    (fun i => (block_2 V c t ht _).trans (h2 _ i)) (fun j => (block_3 V c t ht _).trans (h3 _ j)) j
  have he := emb_4 t ht j
  have hk := keepOf_apply v r ⟨t.val, ht⟩ j
  rw [he]
  rw [hk, ← hb]
  simp -implicitDefEqProofs only [cast_eq]
  refine congrArg (outsAt1 V c t) ?_
  funext a
  rfl

end Cert.KernelIdeal.Gen
end
-- ==== Proof.KChain.lean ====
/- The kernel's three results, from the launch to the return: each stage's arrays, in the words of the candidates. -/
module

public import proofs.«01_k».proof.Proof.KHost
public import proofs.«01_k».proof.Proof.Nms

@[expose] public section

set_option maxRecDepth 16384

noncomputable section

namespace Cert.KernelIdeal.Gen

open Idealize.ShloMosaic Idealize.ShloMosaic.TcCoe Idealize.ShloMosaic.Tactic Cert.Nms
open Idealize.SL Idealize.SL.RA Idealize.SL.BI
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-- `main_indices` reaches boundary 4 as boundary 2 has it. -/
theorem keep_indices_4 : W4 m ρ c (Proc.devRef .tc main_indices) = W2 m ρ c (Proc.devRef .tc main_indices) :=
  ((W4_of m ρ c main_indices (by decide))).trans (W3_of m ρ c main_indices (by decide))

/-- `main_v0_1` reaches boundary 6 as boundary 1 has it. -/
theorem keep_v0_1_6 : W6 m ρ c (Proc.devRef .tc main_v0_1) = W1 m ρ c (Proc.devRef .tc main_v0_1) :=
  (((((W6_of m ρ c main_v0_1 (by decide))).trans (W5_of m ρ c main_v0_1 (by decide))).trans (W4_of m ρ c main_v0_1 (by decide))).trans (W3_of m ρ c main_v0_1 (by decide))).trans (W2_of m ρ c main_v0_1 (by decide))

/-- `main_v2` reaches boundary 5 as boundary 3 has it. -/
theorem keep_v2_5 : W5 m ρ c (Proc.devRef .tc main_v2) = W3 m ρ c (Proc.devRef .tc main_v2) :=
  ((W5_of m ρ c main_v2 (by decide))).trans (W4_of m ρ c main_v2 (by decide))

/-- `main_v5` reaches boundary 7 as boundary 6 has it. -/
theorem keep_v5_7 : W7 m ρ c (Proc.devRef .tc main_v5) = W6 m ρ c (Proc.devRef .tc main_v5) :=
  (W7_of m ρ c main_v5 (by decide))

/-- `main_values` reaches boundary 7 as boundary 2 has it. -/
theorem keep_values_7 : W7 m ρ c (Proc.devRef .tc main_values) = W2 m ρ c (Proc.devRef .tc main_values) :=
  (((((W7_of m ρ c main_values (by decide))).trans (W6_of m ρ c main_values (by decide))).trans (W5_of m ρ c main_values (by decide))).trans (W4_of m ρ c main_values (by decide))).trans (W3_of m ρ c main_values (by decide))

/-- `main_v9` reaches boundary 9 as boundary 8 has it. -/
theorem keep_v9_9 : W9 m ρ c (Proc.devRef .tc main_v9) = W8 m ρ c (Proc.devRef .tc main_v9) :=
  (W9_of m ρ c main_v9 (by decide))

/-- `main_v21` reaches boundary 11 as boundary 9 has it. -/
theorem keep_v21_11 : W11 m ρ c (Proc.devRef .tc main_v21) = W9 m ρ c (Proc.devRef .tc main_v21) :=
  ((W11_of m ρ c main_v21 (by decide))).trans (W10_of m ρ c main_v21 (by decide))

/-- `main_v9` reaches boundary 13 as boundary 8 has it. -/
theorem keep_v9_13 : W13 m ρ c (Proc.devRef .tc main_v9) = W8 m ρ c (Proc.devRef .tc main_v9) :=
  (((((W13_of m ρ c main_v9 (by decide))).trans (W12_of m ρ c main_v9 (by decide))).trans (W11_of m ρ c main_v9 (by decide))).trans (W10_of m ρ c main_v9 (by decide))).trans (W9_of m ρ c main_v9 (by decide))

/-- `main_values` reaches boundary 14 as boundary 2 has it. -/
theorem keep_values_14 : W14 m ρ c (Proc.devRef .tc main_values) = W2 m ρ c (Proc.devRef .tc main_values) :=
  ((((((((((((W14_of m ρ c main_values (by decide))).trans (W13_of m ρ c main_values (by decide))).trans (W12_of m ρ c main_values (by decide))).trans (W11_of m ρ c main_values (by decide))).trans (W10_of m ρ c main_values (by decide))).trans (W9_of m ρ c main_values (by decide))).trans (W8_of m ρ c main_values (by decide))).trans (W7_of m ρ c main_values (by decide))).trans (W6_of m ρ c main_values (by decide))).trans (W5_of m ρ c main_values (by decide))).trans (W4_of m ρ c main_values (by decide))).trans (W3_of m ρ c main_values (by decide))

/-- `main_v7` reaches boundary 16 as boundary 7 has it. -/
theorem keep_v7_16 : W16 m ρ c (Proc.devRef .tc main_v7) = W7 m ρ c (Proc.devRef .tc main_v7) :=
  (((((((((W16_of m ρ c main_v7 (by decide))).trans (W15_of m ρ c main_v7 (by decide))).trans (W14_of m ρ c main_v7 (by decide))).trans (W13_of m ρ c main_v7 (by decide))).trans (W12_of m ρ c main_v7 (by decide))).trans (W11_of m ρ c main_v7 (by decide))).trans (W10_of m ρ c main_v7 (by decide))).trans (W9_of m ρ c main_v7 (by decide))).trans (W8_of m ρ c main_v7 (by decide))

/-- `main_v36` reaches boundary 18 as boundary 16 has it. -/
theorem keep_v36_18 : W18 m ρ c (Proc.devRef .tc main_v36) = W16 m ρ c (Proc.devRef .tc main_v36) :=
  ((W18_of m ρ c main_v36 (by decide))).trans (W17_of m ρ c main_v36 (by decide))

/-- `main_v38` reaches boundary 18 as boundary 17 has it. -/
theorem keep_v38_18 : W18 m ρ c (Proc.devRef .tc main_v38) = W17 m ρ c (Proc.devRef .tc main_v38) :=
  (W18_of m ρ c main_v38 (by decide))

/-- `main_v35` reaches boundary 20 as boundary 16 has it. -/
theorem keep_v35_20 : W20 m ρ c (Proc.devRef .tc main_v35) = W16 m ρ c (Proc.devRef .tc main_v35) :=
  ((((W20_of m ρ c main_v35 (by decide))).trans (W19_of m ρ c main_v35 (by decide))).trans (W18_of m ρ c main_v35 (by decide))).trans (W17_of m ρ c main_v35 (by decide))

/-- `main_values_8` reaches boundary 20 as boundary 16 has it. -/
theorem keep_values_8_20 : W20 m ρ c (Proc.devRef .tc main_values_8) = W16 m ρ c (Proc.devRef .tc main_values_8) :=
  ((((W20_of m ρ c main_values_8 (by decide))).trans (W19_of m ρ c main_values_8 (by decide))).trans (W18_of m ρ c main_values_8 (by decide))).trans (W17_of m ρ c main_values_8 (by decide))

/-- `main_indices_9` reaches boundary 21 as boundary 16 has it. -/
theorem keep_indices_9_21 : W21 m ρ c (Proc.devRef .tc main_indices_9) = W16 m ρ c (Proc.devRef .tc main_indices_9) :=
  (((((W21_of m ρ c main_indices_9 (by decide))).trans (W20_of m ρ c main_indices_9 (by decide))).trans (W19_of m ρ c main_indices_9 (by decide))).trans (W18_of m ρ c main_indices_9 (by decide))).trans (W17_of m ρ c main_indices_9 (by decide))

/-- `main_v5` reaches boundary 21 as boundary 6 has it. -/
theorem keep_v5_21 : W21 m ρ c (Proc.devRef .tc main_v5) = W6 m ρ c (Proc.devRef .tc main_v5) :=
  (((((((((((((((W21_of m ρ c main_v5 (by decide))).trans (W20_of m ρ c main_v5 (by decide))).trans (W19_of m ρ c main_v5 (by decide))).trans (W18_of m ρ c main_v5 (by decide))).trans (W17_of m ρ c main_v5 (by decide))).trans (W16_of m ρ c main_v5 (by decide))).trans (W15_of m ρ c main_v5 (by decide))).trans (W14_of m ρ c main_v5 (by decide))).trans (W13_of m ρ c main_v5 (by decide))).trans (W12_of m ρ c main_v5 (by decide))).trans (W11_of m ρ c main_v5 (by decide))).trans (W10_of m ρ c main_v5 (by decide))).trans (W9_of m ρ c main_v5 (by decide))).trans (W8_of m ρ c main_v5 (by decide))).trans (W7_of m ρ c main_v5 (by decide))

/-- `main_v35` reaches boundary 23 as boundary 16 has it. -/
theorem keep_v35_23 : W23 m ρ c (Proc.devRef .tc main_v35) = W16 m ρ c (Proc.devRef .tc main_v35) :=
  (((((((W23_of m ρ c main_v35 (by decide))).trans (W22_of m ρ c main_v35 (by decide))).trans (W21_of m ρ c main_v35 (by decide))).trans (W20_of m ρ c main_v35 (by decide))).trans (W19_of m ρ c main_v35 (by decide))).trans (W18_of m ρ c main_v35 (by decide))).trans (W17_of m ρ c main_v35 (by decide))

/-- `main_v41` reaches boundary 23 as boundary 22 has it. -/
theorem keep_v41_23 : W23 m ρ c (Proc.devRef .tc main_v41) = W22 m ρ c (Proc.devRef .tc main_v41) :=
  (W23_of m ρ c main_v41 (by decide))

/-- `main_v39` reaches boundary 24 as boundary 19 has it. -/
theorem keep_v39_24 : W24 m ρ c (Proc.devRef .tc main_v39) = W19 m ρ c (Proc.devRef .tc main_v39) :=
  (((((W24_of m ρ c main_v39 (by decide))).trans (W23_of m ρ c main_v39 (by decide))).trans (W22_of m ρ c main_v39 (by decide))).trans (W21_of m ρ c main_v39 (by decide))).trans (W20_of m ρ c main_v39 (by decide))

/-- `main_v40` reaches boundary 25 as boundary 21 has it. -/
theorem keep_v40_25 : W25 m ρ c (Proc.devRef .tc main_v40) = W21 m ρ c (Proc.devRef .tc main_v40) :=
  ((((W25_of m ρ c main_v40 (by decide))).trans (W24_of m ρ c main_v40 (by decide))).trans (W23_of m ρ c main_v40 (by decide))).trans (W22_of m ρ c main_v40 (by decide))

/-- `main_v42` reaches boundary 25 as boundary 24 has it. -/
theorem keep_v42_25 : W25 m ρ c (Proc.devRef .tc main_v42) = W24 m ρ c (Proc.devRef .tc main_v42) :=
  (W25_of m ρ c main_v42 (by decide))

/-- The fourth argument reaches the last stretch as launched. -/
theorem keep_arg3 : W24 m ρ c (Proc.devRef .tc main_arg3) = m ((c : Thread nD τ).loc main_arg3) := W24_args m ρ c main_arg3 (by decide)

variable {A0 : FVec Ideal (s3 8 8732 81) .f32} {A1 : FVec Ideal (s3 8 8732 4) .f32} {A2 : FVec Ideal (s2 8732 4) .f32}
variable (h0 : m ((c : Thread nD τ).loc main_arg0) = A0) (h1 : m ((c : Thread nD τ).loc main_arg1) = A1) (h2 : m ((c : Thread nD τ).loc main_arg2) = A2)
include h0 h1 h2

/-- The first grid leaves every score that counts, minus one elsewhere. -/
theorem W1_scores : (W1 m ρ c (Proc.devRef .tc main_v0_0) : FVec Ideal (s3 8 8732 80) .f32) = scoresOf A0 A1 A2 := by
  refine ((W1_arr m ρ c 3).trans (masked_arr (V0 m ρ) c)).trans ?_
  subst h0 h1 h2
  rfl

omit h0 in
/-- The first grid leaves every box. -/
theorem W1_boxes : (W1 m ρ c (Proc.devRef .tc main_v0_1) : FVec Ideal (s3 8 8732 4) .f32) = boxesOf A1 A2 := by
  refine ((W1_arr m ρ c 4).trans (boxes_arr (V0 m ρ) c)).trans ?_
  subst h1 h2
  rfl

/-- The candidates' values. -/
theorem W2_values (b : Fin 8) (i : Fin 1000) : (W2 m ρ c (Proc.devRef .tc main_values) : FVec Ideal (s2 8 1000) .f32) (ix2 b i) = vals A0 A1 A2 b i := by
  refine (congrFun (read_values _ _ (W1_scores m ρ c h0 h1 h2)) _).trans ?_
  rw [cast_scores]
  exact best_value _ _ b i

/-- The candidates' flat positions. -/
theorem W2_indices (b : Fin 8) (i : Fin 1000) : (W2 m ρ c (Proc.devRef .tc main_indices) : IVec (s2 8 1000) 32) (ix2 b i) = BitVec.ofNat 32 (cand A0 A1 A2 b i).val := by
  refine (congrFun (read_indices _ _ (W1_scores m ρ c h0 h1 h2)) _).trans ?_
  rw [cast_scores]
  exact best_index _ _ b i

/-- The candidates' priors. -/
theorem W3_v2 (b : Fin 8) (i : Fin 1000) : (W3 m ρ c (Proc.devRef .tc main_v2) : IVec (s2 8 1000) 32) (ix2 b i) = BitVec.ofNat 32 (priorOf (cand A0 A1 A2 b i)).val :=
  read_div (W2 m ρ c) _ _ (cand A0 A1 A2 b i).isLt b i rfl (read_c _) (W2_indices m ρ c h0 h1 h2 b i)

/-- The candidates' classes. -/
theorem W5_v3 (b : Fin 8) (i : Fin 1000) : (W5 m ρ c (Proc.devRef .tc main_v3) : IVec (s2 8 1000) 32) (ix2 b i) = BitVec.ofNat 32 (classOf (cand A0 A1 A2 b i)).val :=
  read_rem (W4 m ρ c) _ _ (cand A0 A1 A2 b i).isLt b i (keep_indices_4 m ρ c) (read_c_0 _) (W2_indices m ρ c h0 h1 h2 b i)

/-- The candidates' labels. -/
theorem W6_v5 (b : Fin 8) (i : Fin 1000) : (W6 m ρ c (Proc.devRef .tc main_v5) : IVec (s2 8 1000) 32) (ix2 b i) = clab A0 A1 A2 b i :=
  read_label (W5 m ρ c) _ b i (W5_v3 m ρ c h0 h1 h2 b i)

/-- The candidates' priors, as a column. -/
theorem W6_v6 (b : Fin 8) (i : Fin 1000) : (W6 m ρ c (Proc.devRef .tc main_v6) : IVec (s3 8 1000 1) 32) (ix3 b i 0) = BitVec.ofNat 32 (priorOf (cand A0 A1 A2 b i)).val := by
  refine (read_places (W5 m ρ c) b i).trans ?_
  rw [keep_v2_5]
  exact W3_v2 m ρ c h0 h1 h2 b i

/-- The candidates' boxes. -/
theorem W7_v7 (b : Fin 8) (i : Fin 1000) (k : Fin 4) : (W7 m ρ c (Proc.devRef .tc main_v7) : FVec Ideal (s3 8 1000 4) .f32) (ix3 b i k) = cbox A0 A1 A2 b i k :=
  read_cbox (W6 m ρ c) _ _ b i k ((keep_v0_1_6 m ρ c).trans (W1_boxes m ρ c h1 h2)) (W6_v6 m ρ c h0 h1 h2 b i)

open Classical in
/-- Which candidates count. -/
theorem W8_v9 (b : Fin 8) (i : Fin 1000) : (W8 m ρ c (Proc.devRef .tc main_v9) : IVec (s2 8 1000) 1) (ix2 b i) = BitVec.ofBool (decide (valid A0 A1 A2 b i)) := by
  refine (read_valid (W7 m ρ c) (vals A0 A1 A2 b i) b i ?_).trans ?_
  · rw [keep_values_7]
    exact W2_values m ρ c h0 h1 h2 b i
  · unfold valid
    congr

/-- The candidates' boxes, moved apart by label. -/
theorem W8_v20 (b : Fin 8) (i : Fin 1000) (k : Fin 4) : (W8 m ρ c (Proc.devRef .tc main_v20) : FVec Ideal (s3 8 1000 4) .f32) (ix3 b i k) = obox A0 A1 A2 b i k :=
  read_moved (W7 m ρ c) (cbox A0 A1 A2 b) _ b i k (fun i k => W7_v7 m ρ c h0 h1 h2 b i k) (by rw [keep_v5_7]; exact W6_v5 m ρ c h0 h1 h2 b i)

/-- The same in whole blocks. -/
theorem W11_v21 (b : Fin 8) (i : Fin 1000) (k : Fin 4) : (W11 m ρ c (Proc.devRef .tc main_v21) : FVec Ideal (s3 8 1024 4) .f32) (ix3 b ⟨i.val, by omega⟩ k) = obox A0 A1 A2 b i k := by
  rw [keep_v21_11]
  exact (read_padded (W8 m ρ c) b i k).trans (W8_v20 m ρ c h0 h1 h2 b i k)

open Classical in
/-- The candidates' flags. -/
theorem W10_v22 (b : Fin 8) (i : Fin 1000) : (W10 m ρ c (Proc.devRef .tc main_v22) : FVec Ideal (s2 8 1000) .f32) (ix2 b i) = flag (valid A0 A1 A2 b i) :=
  read_flags (W9 m ρ c) _ b i (by rw [keep_v9_9]; exact W8_v9 m ρ c h0 h1 h2 b i)

open Classical in
/-- The candidates' flags in whole blocks. -/
theorem W11_v23 (b : Fin 8) (j : Fin 1024) : (W11 m ρ c (Proc.devRef .tc main_v23) : FVec Ideal (s2 8 1024) .f32) (ix2 b j)
    = if h : j.val < 1000 then flag (valid A0 A1 A2 b ⟨j.val, h⟩) else 0 :=
  read_flags_padded (W10 m ρ c) (fun i => flag (valid A0 A1 A2 b i)) b j (fun i => W10_v22 m ρ c h0 h1 h2 b i) (read_c_5 (W9 m ρ c))

/-- The second grid leaves the candidates' survival flags. -/
theorem W13_v27 : (W13 m ρ c (Proc.devRef .tc main_v27) : FVec Ideal (s3 8 1 1024) .f32) = keepOf (valid A0 A1 A2) (obox A0 A1 A2) := by
  refine (W13_arr m ρ c 4).trans (keep_arr (V12 m ρ) c _ _ ?_ ?_ ?_ ?_)
  · intro b i k
    refine (congrFun ((W12_of m ρ c main_v21 (by decide)).trans rfl) _).trans (W11_v21 m ρ c h0 h1 h2 b i k)
  · intro b i k
    exact (read_turned (W11 m ρ c) b k _).trans (W11_v21 m ρ c h0 h1 h2 b i k)
  · intro b i
    refine (read_column (W11 m ρ c) b _).trans ((W11_v23 m ρ c h0 h1 h2 b _).trans ?_)
    rw [dif_pos i.isLt]
  · intro b j
    exact (read_row (W11 m ρ c) b _).trans (W11_v23 m ρ c h0 h1 h2 b _)

open Classical in
/-- Which candidates are left. -/
theorem W14_v32 (b : Fin 8) (i : Fin 1000) : (W14 m ρ c (Proc.devRef .tc main_v32) : IVec (s2 8 1000) 1) (ix2 b i)
    = BitVec.ofBool (decide (survives (valid A0 A1 A2 b) (obox A0 A1 A2 b) i ∧ valid A0 A1 A2 b i)) := by
  refine (read_alive (W13 m ρ c) (flag (survives (valid A0 A1 A2 b) (obox A0 A1 A2 b) i)) (valid A0 A1 A2 b i) b i ?_ ?_).trans ?_
  · rw [W13_v27 m ρ c h0 h1 h2]
    refine (keepOf_apply _ _ b _).trans ?_
    rw [dif_pos i.isLt]
  · rw [keep_v9_13]
    exact W8_v9 m ρ c h0 h1 h2 b i
  · refine congrArg BitVec.ofBool (decide_eq_decide.2 (and_congr_left' ?_))
    unfold flag
    split
    · rename_i e
      exact iff_of_true (by norm_num) e
    · rename_i e
      exact iff_of_false (by norm_num) e

/-- The candidates' scores, minus one where suppressed. -/
theorem W15_v33 : (W15 m ρ c (Proc.devRef .tc main_v33) : FVec Ideal (s2 8 1000) .f32) = left A0 A1 A2 := by
  classical
  refine cells2 _ _ fun y0 y1 => ?_
  refine (read_left (W14 m ρ c) (vals A0 A1 A2 y0 y1) _ y0 y1 (read_cst_7 _) ?_ (W14_v32 m ρ c h0 h1 h2 y0 y1)).trans ?_
  · rw [keep_values_14]
    exact W2_values m ρ c h0 h1 h2 y0 y1
  · unfold left
    congr

open Classical in
/-- The detections' boxes. -/
theorem W19_v39 : (W19 m ρ c (Proc.devRef .tc main_v39) : FVec Ideal (s3 8 100 4) .f32) = outBoxes A0 A1 A2 := by
  refine cells3 _ _ fun y0 y1 y2 => ?_
  refine (read_outBoxes (W18 m ρ c) (cbox A0 A1 A2 y0 (pick A0 A1 A2 y0 y1) y2) (found A0 A1 A2 y0 y1) y0 y1 y2 (read_cst_11 _) ?_ ?_).trans ?_
  · rw [keep_v38_18]
    refine (read_fbox (W16 m ρ c) _ y0 y1 y2 (read_picks (W15 m ρ c) _ (W15_v33 m ρ c h0 h1 h2) y0 y1)).trans ?_
    rw [keep_v7_16]
    exact W7_v7 m ρ c h0 h1 h2 y0 _ y2
  · rw [keep_v36_18]
    refine (read_found_column (W15 m ρ c) _ (W15_v33 m ρ c h0 h1 h2) y0 y1).trans ?_
    unfold found pick
    congr
  · rfl

open Classical in
/-- The detections. -/
theorem W16_v35 (b : Fin 8) (i : Fin 100) : (W16 m ρ c (Proc.devRef .tc main_v35) : IVec (s2 8 100) 1) (ix2 b i) = BitVec.ofBool (decide (found A0 A1 A2 b i)) := by
  refine (read_found (W15 m ρ c) _ (W15_v33 m ρ c h0 h1 h2) b i).trans ?_
  unfold found pick
  congr

open Classical in
/-- The kernel's second result: the detections' scores. -/
theorem W25_v40 : (W25 m ρ c (Proc.devRef .tc main_v40) : FVec Ideal (s2 8 100) .f32) = outScores A0 A1 A2 := by
  rw [keep_v40_25]
  refine cells2 _ _ fun y0 y1 => ?_
  refine (read_outScores (W20 m ρ c) (left A0 A1 A2 (ix2 y0 (pick A0 A1 A2 y0 y1))) (found A0 A1 A2 y0 y1) y0 y1 (read_cst_12 _) ?_ ?_).trans ?_
  · rw [keep_values_8_20]
    exact (congrFun (read_values_8 (W15 m ρ c) _ (W15_v33 m ρ c h0 h1 h2)) _).trans (best_value _ _ y0 y1)
  · rw [keep_v35_20]
    exact W16_v35 m ρ c h0 h1 h2 y0 y1
  · show _ = if found A0 A1 A2 y0 y1 then _ else _
    split
    · rename_i e
      exact left_of_found A0 A1 A2 y0 y1 e
    · rfl

open Classical in
/-- The kernel's third result: the detections' labels. -/
theorem W25_v42 : (W25 m ρ c (Proc.devRef .tc main_v42) : IVec (s2 8 100) 32) = outLabels A0 A1 A2 := by
  rw [keep_v42_25]
  refine cells2 _ _ fun y0 y1 => ?_
  refine (read_outLabels (W23 m ρ c) (clab A0 A1 A2 y0 (pick A0 A1 A2 y0 y1)) (found A0 A1 A2 y0 y1) y0 y1 (read_c_13 _) ?_ ?_).trans ?_
  · rw [keep_v41_23]
    refine (read_flab (W21 m ρ c) (pick A0 A1 A2 y0 y1) y0 y1 ?_).trans ?_
    · rw [keep_indices_9_21]
      exact (congrFun (read_indices_9 (W15 m ρ c) _ (W15_v33 m ρ c h0 h1 h2)) _).trans (best_index _ _ y0 y1)
    · rw [keep_v5_21]
      exact W6_v5 m ρ c h0 h1 h2 y0 _
  · rw [keep_v35_23]
    exact W16_v35 m ρ c h0 h1 h2 y0 y1
  · rfl

/-- The kernel's first result: the detections' boxes, scaled. -/
theorem W25_v48 (t : IVec (s2 8 2) 32) (h3 : m ((c : Thread nD τ).loc main_arg3) = t) :
    (W25 m ρ c (Proc.devRef .tc main_v48) : FVec Ideal (s3 8 100 4) .f32) = mulf (outBoxes A0 A1 A2) (scales t) :=
  read_scaled (W24 m ρ c) _ _ ((keep_v39_24 m ρ c).trans (W19_v39 m ρ c h0 h1 h2)) ((keep_arg3 m ρ c).trans h3)

end Cert.KernelIdeal.Gen
end
-- ==== Proof.RHost.lean ====
/- The reference's decoded boxes and class probabilities, as its first stretch computes them. -/
module

public import proofs.«01_k».proof.Proof.RRun
public import proofs.«01_k».proof.Proof.Cand
public import Idealize.ShloMosaic.Lib.StableHlo.ReadAt
public import Idealize.ShloMosaic.Lib.StableHlo.RunRead

@[expose] public section

set_option maxRecDepth 16384

noncomputable section

namespace Cert.ReferenceIdeal.Value

open Cert.ReferenceIdeal.Gen
open Idealize.ShloMosaic Idealize.ShloMosaic.TcCoe Cert.Nms Idealize.ShloMosaic.Tactic
open StableHlo (after)

variable (V : Valuation τ sig (Elt Ideal))

/-- The decoded centres. -/
theorem read_centre (x1 : FVec Ideal (s3 8 8732 4) .f32) (x2 : FVec Ideal (s2 8732 4) .f32) (h1 : V (Proc.devRef .tc main_arg1) = x1) (h2 : V (Proc.devRef .tc main_arg2) = x2) :
    after hostOps0 V (Proc.devRef .tc main_v10)
    = (addf (broadcastInDim S8x8732x2 ![0, 1, 2] bcast_S1x8732x2_S8x8732x2_0_1_2 (broadcastInDim S1x8732x2 ![1, 2] bcast_S8732x2_S1x8732x2_1_2
          (extractStridedSlice S8732x2 ![0, 0] x2 slices_S8732x4_S8732x2_0_0)))
        (mulf (mulf (extractStridedSlice S8x8732x2 ![0, 0, 0] x1 slices_S8x8732x4_S8x8732x2_0_0_0)
            (broadcastInDim S8x8732x2 ![] bcast_S_S8x8732x2 (constant S_ .f32 0x3DCCCCCD#32)))
          (broadcastInDim S8x8732x2 ![0, 1, 2] bcast_S1x8732x2_S8x8732x2_0_1_2 (broadcastInDim S1x8732x2 ![1, 2] bcast_S8732x2_S1x8732x2_1_2
            (extractStridedSlice S8732x2 ![0, 2] x2 slices_S8732x4_S8732x2_0_2)))) : FVec Ideal (s3 8 8732 2) .f32) := by
  rw [← h1, ← h2]
  after_results

/-- The decoded extents. -/
theorem read_extent (x1 : FVec Ideal (s3 8 8732 4) .f32) (x2 : FVec Ideal (s2 8732 4) .f32) (h1 : V (Proc.devRef .tc main_arg1) = x1) (h2 : V (Proc.devRef .tc main_arg2) = x2) :
    after hostOps0 V (Proc.devRef .tc main_v18)
    = (mulf (broadcastInDim S8x8732x2 ![0, 1, 2] bcast_S1x8732x2_S8x8732x2_0_1_2 (broadcastInDim S1x8732x2 ![1, 2] bcast_S8732x2_S1x8732x2_1_2
            (extractStridedSlice S8732x2 ![0, 2] x2 slices_S8732x4_S8732x2_0_2)))
        (Host.exp (mulf (extractStridedSlice S8x8732x2 ![0, 0, 2] x1 slices_S8x8732x4_S8x8732x2_0_0_2)
            (broadcastInDim S8x8732x2 ![] bcast_S_S8x8732x2 (constant S_ .f32 0x3E4CCCCD#32)))) : FVec Ideal (s3 8 8732 2) .f32) := by
  rw [← h1, ← h2]
  after_results

/-- The decoded boxes, from the centres and the extents. -/
theorem read_box (x10 x18 : FVec Ideal (s3 8 8732 2) .f32) (h10 : after hostOps0 V (Proc.devRef .tc main_v10) = x10) (h18 : after hostOps0 V (Proc.devRef .tc main_v18) = x18) :
    after hostOps0 V (Proc.devRef .tc main_v25)
    = (concatenate S8x8732x4 2 [⟨S8x8732x2, subf x10 (Host.divf x18 (broadcastInDim S8x8732x2 ![] bcast_S_S8x8732x2 (constant S_ .f32 0x40000000#32)))⟩,
        ⟨S8x8732x2, addf x10 (Host.divf x18 (broadcastInDim S8x8732x2 ![] bcast_S_S8x8732x2 (constant S_ .f32 0x40000000#32)))⟩] concatenates_S8x8732x2_S8x8732x2_S8x8732x4_d2 : FVec Ideal (s3 8 8732 4) .f32) := by
  rw [← h10, ← h18]
  after_results

/-- The centre on one axis. -/
theorem centre_cell (x1 : FVec Ideal (s3 8 8732 4) .f32) (x2 : FVec Ideal (s2 8732 4) .f32) (h1 : V (Proc.devRef .tc main_arg1) = x1) (h2 : V (Proc.devRef .tc main_arg2) = x2)
    (b : Fin 8) (p : Fin 8732) (a : Fin 2) :
    (after hostOps0 V (Proc.devRef .tc main_v10) : FVec Ideal (s3 8 8732 2) .f32) (ix3 b p a) = centre (fun k => x1 (ix3 b p k)) (fun k => x2 (ix2 p k)) a := by
  rw [read_centre V x1 x2 h1 h2]
  pointwise
  rfl

/-- Half the extent on one axis. -/
theorem half_cell (x1 : FVec Ideal (s3 8 8732 4) .f32) (x2 : FVec Ideal (s2 8732 4) .f32) (h1 : V (Proc.devRef .tc main_arg1) = x1) (h2 : V (Proc.devRef .tc main_arg2) = x2)
    (b : Fin 8) (p : Fin 8732) (a : Fin 2) :
    Ideal.div ((after hostOps0 V (Proc.devRef .tc main_v18) : FVec Ideal (s3 8 8732 2) .f32) (ix3 b p a)) (Ideal.ofBits .f32 0x40000000#32)
      = half (fun k => x1 (ix3 b p k)) (fun k => x2 (ix2 p k)) a := by
  rw [read_extent V x1 x2 h1 h2]
  pointwise
  rfl

/-- The box on one coordinate. -/
theorem box_cell (x1 : FVec Ideal (s3 8 8732 4) .f32) (x2 : FVec Ideal (s2 8732 4) .f32) (h1 : V (Proc.devRef .tc main_arg1) = x1) (h2 : V (Proc.devRef .tc main_arg2) = x2)
    (b : Fin 8) (p : Fin 8732) (k : Fin 4) :
    (after hostOps0 V (Proc.devRef .tc main_v25) : FVec Ideal (s3 8 8732 4) .f32) (ix3 b p k) = boxAt x1 x2 b p k := by
  rw [read_box V _ _ rfl rfl]
  generalize hx : after hostOps0 V (Proc.devRef .tc main_v10) = x10
  generalize hy : after hostOps0 V (Proc.devRef .tc main_v18) = x18
  have hc := centre_cell V x1 x2 h1 h2 b p
  have hh := half_cell V x1 x2 h1 h2 b p
  rw [hx] at hc
  rw [hy] at hh
  pointwise
  fin_cases k
  all_goals simp [hc, hh, boxAt, corner]

/-- The scores as probabilities. -/
theorem read_prob (x32 : FVec Ideal (s3 8 8732 81) .f32) (h32 : after hostOps0 V (Proc.devRef .tc main_v32) = x32) :
    after hostOps0 V (Proc.devRef .tc main_v38)
    = (shapeCast S8x698560 (extractStridedSlice S8x8732x80 ![0, 0, 1] (Host.divf x32 (broadcastInDim S8x8732x81 ![0, 1, 2] bcast_S8x8732x1_S8x8732x81_0_1_2 (broadcastInDim S8x8732x1 ![0, 1] bcast_S8x8732_S8x8732x1_0_1
      (Host.reduceAdd x32 (constant S_ .f32 0x00000000#32) reducesTo_S8x8732x81_S8x8732_d2 h_S_)))) slices_S8x8732x81_S8x8732x80_0_0_1)
        shapeCasts_S8x8732x80_S8x698560 : FVec Ideal (s2 8 698560) .f32) := by
  rw [← h32]
  after_results
  rfl

/-- The exponentials of the logits less their row's largest. -/
theorem read_exp (x0 : FVec Ideal (s3 8 8732 81) .f32) (h0 : V (Proc.devRef .tc main_arg0) = x0) :
    after hostOps0 V (Proc.devRef .tc main_v32)
    = (Host.exp (subf x0 (broadcastInDim S8x8732x81 ![0, 1, 2] bcast_S8x8732x1_S8x8732x81_0_1_2 (broadcastInDim S8x8732x1 ![0, 1] bcast_S8x8732_S8x8732x1_0_1
        (maximumf (broadcastInDim S8x8732 ![] bcast_S_S8x8732 (constant S_ .f32 0xFF800000#32)) (Host.reduce FloatOps.maximumf x0 (constant S_ .f32 0xFF800000#32) reducesTo_S8x8732x81_S8x8732_d2 h_S_))))) : FVec Ideal (s3 8 8732 81) .f32) := by
  rw [← h0]
  after_results

end Cert.ReferenceIdeal.Value
end
-- ==== Proof.RScore.lean ====
/- The reference's softmax, one score at a time. -/
module

public import proofs.«01_k».proof.Proof.RHost
public import Idealize.ShloMosaic.Lib.StableHlo.ReadAt
public import Idealize.ShloMosaic.Lib.StableHlo.RunRead

@[expose] public section

set_option maxRecDepth 16384

noncomputable section

namespace Cert.Nms

open Idealize.ShloMosaic

/-- A row's number, spread over the row's entries. -/
theorem spread_row {α : Type} {n k : ℕ} (hb : (s3 8 n 1).BroadcastsInDim (s3 8 n k) (![0, 1, 2] : Fin 3 → Fin (s3 8 n k).rank))
    (ha : (s2 8 n).BroadcastsInDim (s3 8 n 1) (![0, 1] : Fin 2 → Fin (s3 8 n 1).rank)) (y : (s2 8 n).Idx → α) (b : Fin 8) (p : Fin n) (l : Fin k) :
    broadcastInDim (s3 8 n k) ![0, 1, 2] hb (broadcastInDim (s3 8 n 1) ![0, 1] ha y) (ix3 b p l) = y (ix2 b p) := by
  rw [broadcastInDim_apply _ hb _ (ix3 b p l) (ix3 b p 0) fun a => ?_, broadcastInDim_apply _ ha _ (ix3 b p 0) (ix2 b p) fun a => ?_]
  · fin_cases a
    · rfl
    · show p.val = if n = 1 then 0 else p.val
      have := p.isLt
      split <;> omega
  · fin_cases a
    · rfl
    · show p.val = if n = 1 then 0 else p.val
      have := p.isLt
      split <;> omega
    · rfl

/-- The largest of each row. -/
theorem max_row {n : ℕ} (hr : (s3 8 n 81).ReducesTo [2] (s2 8 n)) (hs : 0 < s0.numel) (x : FVec Ideal (s3 8 n 81) .f32) (b : Fin 8) (p : Fin n) :
    Host.reduce FloatOps.maximumf x (constant s0 .f32 0xFF800000#32) hr hs (ix2 b p) = rowMax (fun l => x (ix3 b p l)) := by
  pointwise
  rfl

/-- The sum of each row. -/
theorem sum_row {n : ℕ} (hr : (s3 8 n 81).ReducesTo [2] (s2 8 n)) (hs : 0 < s0.numel) (x : FVec Ideal (s3 8 n 81) .f32) (b : Fin 8) (p : Fin n) :
    Host.reduceAdd x (constant s0 .f32 0x00000000#32) hr hs (ix2 b p) = ∑ l, x (ix3 b p l) := by
  pointwise

/-- The exponential of a row's logit less the row's largest, at whatever number of rows. -/
theorem exp_row {n : ℕ} (hb : (s3 8 n 1).BroadcastsInDim (s3 8 n 81) (![0, 1, 2] : Fin 3 → Fin (s3 8 n 81).rank))
    (ha : (s2 8 n).BroadcastsInDim (s3 8 n 1) (![0, 1] : Fin 2 → Fin (s3 8 n 1).rank))
    (hc : s0.BroadcastsInDim (s2 8 n) (![] : Fin 0 → Fin (s2 8 n).rank)) (hr : (s3 8 n 81).ReducesTo [2] (s2 8 n)) (hs : 0 < s0.numel)
    (x : FVec Ideal (s3 8 n 81) .f32) (b : Fin 8) (p : Fin n) (l : Fin 81) :
    Host.exp (subf x (broadcastInDim (s3 8 n 81) ![0, 1, 2] hb (broadcastInDim (s3 8 n 1) ![0, 1] ha
        (maximumf (broadcastInDim (s2 8 n) ![] hc (constant s0 .f32 0xFF800000#32)) (Host.reduce FloatOps.maximumf x (constant s0 .f32 0xFF800000#32) hr hs))))) (ix3 b p l)
      = Ideal.exp (x (ix3 b p l) - rowMax (fun l => x (ix3 b p l))) := by
  have e : Host.exp (subf x (broadcastInDim (s3 8 n 81) ![0, 1, 2] hb (broadcastInDim (s3 8 n 1) ![0, 1] ha
        (maximumf (broadcastInDim (s2 8 n) ![] hc (constant s0 .f32 0xFF800000#32)) (Host.reduce FloatOps.maximumf x (constant s0 .f32 0xFF800000#32) hr hs))))) (ix3 b p l)
      = Ideal.exp (x (ix3 b p l) - broadcastInDim (s3 8 n 81) ![0, 1, 2] hb (broadcastInDim (s3 8 n 1) ![0, 1] ha
        (maximumf (broadcastInDim (s2 8 n) ![] hc (constant s0 .f32 0xFF800000#32)) (Host.reduce FloatOps.maximumf x (constant s0 .f32 0xFF800000#32) hr hs))) (ix3 b p l)) := rfl
  rw [e, spread_row]
  refine congrArg (fun y => Ideal.exp (x (ix3 b p l) - y)) ?_
  refine Eq.trans ?_ (max_lowest_rowMax (fun l => x (ix3 b p l)))
  exact congrArg (max lowest) (max_row hr hs x b p)

/-- A row's exponentials over their sum, at whatever number of rows. -/
theorem div_row {n : ℕ} (hb : (s3 8 n 1).BroadcastsInDim (s3 8 n 81) (![0, 1, 2] : Fin 3 → Fin (s3 8 n 81).rank))
    (ha : (s2 8 n).BroadcastsInDim (s3 8 n 1) (![0, 1] : Fin 2 → Fin (s3 8 n 1).rank))
    (hr : (s3 8 n 81).ReducesTo [2] (s2 8 n)) (hs : 0 < s0.numel) (hl : (s3 8 n 81).Slices ![0, 0, 1] (s3 8 n 80))
    (x : FVec Ideal (s3 8 n 81) .f32) (b : Fin 8) (p : Fin n) (k : Fin 80) :
    extractStridedSlice (s3 8 n 80) ![0, 0, 1] (Host.divf x (broadcastInDim (s3 8 n 81) ![0, 1, 2] hb (broadcastInDim (s3 8 n 1) ![0, 1] ha
        (Host.reduceAdd x (constant s0 .f32 0x00000000#32) hr hs)))) hl (ix3 b p k)
      = Ideal.div (x (ix3 b p ⟨1 + k.val, by omega⟩)) (∑ l, x (ix3 b p l)) := by
  have e : ∀ y : FVec Ideal (s3 8 n 81) .f32, extractStridedSlice (s3 8 n 80) ![0, 0, 1] y hl (ix3 b p k) = y (ix3 b p ⟨1 + k.val, by omega⟩) := by
    intro y
    refine congrArg y (funext fun a => Fin.ext ?_)
    fin_cases a
    · exact Nat.zero_add _
    · exact Nat.zero_add _
    · rfl
  rw [e]
  refine congrArg (Ideal.div (x (ix3 b p ⟨1 + k.val, by omega⟩))) ?_
  rw [spread_row]
  exact sum_row hr hs x b p

end Cert.Nms

namespace Cert.ReferenceIdeal.Value

open Cert.ReferenceIdeal.Gen
open Idealize.ShloMosaic Idealize.ShloMosaic.TcCoe Cert.Nms Idealize.ShloMosaic.Tactic
open StableHlo (after)

variable (V : Valuation τ sig (Elt Ideal))

/-- One exponential. -/
theorem exp_cell (x0 : FVec Ideal (s3 8 8732 81) .f32) (h0 : V (Proc.devRef .tc main_arg0) = x0) (b : Fin 8) (p : Fin 8732) (l : Fin 81) :
    (after hostOps0 V (Proc.devRef .tc main_v32) : FVec Ideal (s3 8 8732 81) .f32) (ix3 b p l) = Ideal.exp (x0 (ix3 b p l) - rowMax (fun l => x0 (ix3 b p l))) := by
  rw [read_exp V x0 h0]
  exact exp_row _ _ _ _ _ x0 b p l

/-- One probability. -/
theorem prob_cell (x0 : FVec Ideal (s3 8 8732 81) .f32) (h0 : V (Proc.devRef .tc main_arg0) = x0) (b : Fin 8) (q : Fin 698560) :
    (after hostOps0 V (Proc.devRef .tc main_v38) : FVec Ideal (s2 8 698560) .f32) (ix2 b q) = scoreAt x0 b (priorOf q) (classOf q) := by
  rw [read_prob V _ rfl]
  refine (shapeCast_apply _ _ (ix2 b q) (ix3 b (priorOf q) (classOf q)) ?_).trans ?_
  · rw [rowMajor_val3 (d := ![8, 8732, 80]) _ (8732 * 80) 80 rfl rfl, rowMajor_val2 (d := ![8, 698560]) _ 698560 rfl]
    show b.val * (8732 * 80) + (q.val / 80) * 80 + q.val % 80 = b.val * 698560 + q.val
    omega
  · refine (div_row _ _ _ _ _ _ b (priorOf q) (classOf q)).trans ?_
    simp only [exp_cell V x0 h0]
    rfl

end Cert.ReferenceIdeal.Value
end
-- ==== Proof.RFlat.lean ====
/- The reference's flat rows: every box, label and score by its place among the scores of an image, and which of them count. -/
module

public import proofs.«01_k».proof.Proof.RScore
public import Idealize.ShloMosaic.Lib.StableHlo.ReadAt
public import Idealize.ShloMosaic.Lib.StableHlo.RunRead

@[expose] public section

set_option maxRecDepth 16384

noncomputable section

namespace Cert.Nms

open Idealize.ShloMosaic

/-- One coordinate of every row of four, at whatever number of rows. -/
theorem column_cell {N : ℕ} (a : ℕ) (ha : a < 4) (hl : (s3 8 N 4).Slices ![0, 0, a] (s3 8 N 1)) (hc : (s3 8 N 1).ShapeCasts (s2 8 N))
    (r : FVec Ideal (s3 8 N 4) .f32) (b : Fin 8) (q : Fin N) :
    shapeCast (s2 8 N) (extractStridedSlice (s3 8 N 1) ![0, 0, a] r hl) hc (ix2 b q) = r (ix3 b q ⟨a, ha⟩) := by
  refine (shapeCast_apply _ hc (ix2 b q) (ix3 b q 0) ?_).trans (congrArg r (funext fun a => Fin.ext ?_))
  · rw [rowMajor_val3 (d := ![8, N, 1]) _ (N * 1) 1 rfl rfl, rowMajor_val2 (d := ![8, N]) _ N rfl]
    show b.val * (N * 1) + (q.val * 1 + 0) = b.val * N + q.val
    rw [Nat.mul_one, Nat.mul_one]; rfl
  · fin_cases a
    · exact Nat.zero_add _
    · exact Nat.zero_add _
    · rfl

/-- Whether a score counts, at whatever number of scores. -/
theorem counts_cell {N : ℕ} (h0 : s0.BroadcastsInDim (s2 8 N) (![] : Fin 0 → Fin (s2 8 N).rank)) (hc : (s3 8 N 1).ShapeCasts (s2 8 N))
    (l0 : (s3 8 N 4).Slices ![0, 0, 0] (s3 8 N 1)) (l1 : (s3 8 N 4).Slices ![0, 0, 1] (s3 8 N 1)) (l2 : (s3 8 N 4).Slices ![0, 0, 2] (s3 8 N 1)) (l3 : (s3 8 N 4).Slices ![0, 0, 3] (s3 8 N 1))
    (x : FVec Ideal (s2 8 N) .f32) (r : FVec Ideal (s3 8 N 4) .f32) (b : Fin 8) (q : Fin N) :
    andi (andi (cmpf .ogt x (broadcastInDim (s2 8 N) ![] h0 (constant s0 .f32 0x3D4CCCCD#32)))
        (cmpf .oge (subf (shapeCast (s2 8 N) (extractStridedSlice (s3 8 N 1) ![0, 0, 2] r l2) hc) (shapeCast (s2 8 N) (extractStridedSlice (s3 8 N 1) ![0, 0, 0] r l0) hc))
          (broadcastInDim (s2 8 N) ![] h0 (constant s0 .f32 0x3C23D70A#32))))
        (cmpf .oge (subf (shapeCast (s2 8 N) (extractStridedSlice (s3 8 N 1) ![0, 0, 3] r l3) hc) (shapeCast (s2 8 N) (extractStridedSlice (s3 8 N 1) ![0, 0, 1] r l1) hc))
          (broadcastInDim (s2 8 N) ![] h0 (constant s0 .f32 0x3C23D70A#32))) (ix2 b q)
      = counts (x (ix2 b q)) (fun k => r (ix3 b q k)) := by
  have e2 := column_cell 2 (by decide) l2 hc r b q
  have e0 := column_cell 0 (by decide) l0 hc r b q
  have e3 := column_cell 3 (by decide) l3 hc r b q
  have e1 := column_cell 1 (by decide) l1 hc r b q
  generalize shapeCast (s2 8 N) (extractStridedSlice (s3 8 N 1) ![0, 0, 2] r l2) hc = y2 at e2 ⊢
  generalize shapeCast (s2 8 N) (extractStridedSlice (s3 8 N 1) ![0, 0, 0] r l0) hc = y0 at e0 ⊢
  generalize shapeCast (s2 8 N) (extractStridedSlice (s3 8 N 1) ![0, 0, 3] r l3) hc = y3 at e3 ⊢
  generalize shapeCast (s2 8 N) (extractStridedSlice (s3 8 N 1) ![0, 0, 1] r l1) hc = y1 at e1 ⊢
  pointwise
  rw [e0, e1, e2, e3]
  rfl

end Cert.Nms

namespace Cert.ReferenceIdeal.Value

open Cert.ReferenceIdeal.Gen
open Idealize.ShloMosaic Idealize.ShloMosaic.TcCoe Cert.Nms Idealize.ShloMosaic.Tactic
open StableHlo (after)

variable (V : Valuation τ sig (Elt Ideal))

/-- Every score's box, from the boxes. -/
theorem read_boxes (x25 : FVec Ideal (s3 8 8732 4) .f32) (h : after hostOps0 V (Proc.devRef .tc main_v25) = x25) :
    after hostOps0 V (Proc.devRef .tc main_v47)
    = (shapeCast S8x698560x4 (broadcastInDim S8x8732x80x4 ![0, 1, 2, 3] bcast_S8x8732x1x4_S8x8732x80x4_0_1_2_3 (broadcastInDim S8x8732x1x4 ![0, 1, 3] bcast_S8x8732x4_S8x8732x1x4_0_1_3 x25))
        shapeCasts_S8x8732x80x4_S8x698560x4 : FVec Ideal (s3 8 698560 4) .f32) := by
  rw [← h]
  after_results
  rfl

/-- One score's box. -/
theorem boxes_cell (x1 : FVec Ideal (s3 8 8732 4) .f32) (x2 : FVec Ideal (s2 8732 4) .f32) (h1 : V (Proc.devRef .tc main_arg1) = x1) (h2 : V (Proc.devRef .tc main_arg2) = x2)
    (b : Fin 8) (q : Fin 698560) (k : Fin 4) :
    (after hostOps0 V (Proc.devRef .tc main_v47) : FVec Ideal (s3 8 698560 4) .f32) (ix3 b q k) = boxAt x1 x2 b (priorOf q) k := by
  rw [← box_cell V x1 x2 h1 h2 b (priorOf q) k, read_boxes V _ rfl]
  refine (shapeCast_apply _ _ (ix3 b q k) (ix4 b (priorOf q) (classOf q) k) ?_).trans ?_
  · rw [rowMajor_val4 (d := ![8, 8732, 80, 4]) _ (8732 * (80 * 4)) (80 * 4) 4 rfl rfl rfl, rowMajor_val3 (d := ![8, 698560, 4]) _ (698560 * 4) 4 rfl rfl]
    show b.val * (8732 * (80 * 4)) + q.val / 80 * (80 * 4) + q.val % 80 * 4 + k.val = b.val * (698560 * 4) + q.val * 4 + k.val
    omega
  · rw [broadcastInDim_apply _ _ _ _ (ix4 b (priorOf q) 0 k) fun a => ?_, broadcastInDim_apply _ _ _ (ix4 b (priorOf q) 0 k) (ix3 b (priorOf q) k) fun a => ?_]
    · fin_cases a <;> rfl
    · fin_cases a <;> rfl

/-- Every score's label. -/
theorem read_labels : after hostOps0 V (Proc.devRef .tc main_v44)
    = (shapeCast S698560 (broadcastInDim S8732x80 ![0, 1] bcast_S1x80_S8732x80_0_1 (shapeCast S1x80 (addi (broadcastInDim S80 ![] bcast_S_S80 (constantI S_ 32 1#32)) (iotaInDim S80 32 0)) shapeCasts_S80_S1x80))
        shapeCasts_S8732x80_S698560 : IVec (s1 698560) 32) := by
  after_results
  rfl

/-- One score's label. -/
theorem label_cell (q : Fin 698560) : (after hostOps0 V (Proc.devRef .tc main_v44) : IVec (s1 698560) 32) (ix1 q) = BitVec.ofNat 32 (1 + (classOf q).val) := by
  rw [read_labels V]
  refine (shapeCast_apply _ _ (ix1 q) (ix2 (priorOf q) (classOf q)) ?_).trans ?_
  · rw [rowMajor_val2 (d := ![8732, 80]) _ 80 rfl, rowMajor_val1]
    show q.val / 80 * 80 + q.val % 80 = q.val
    omega
  · rw [broadcastInDim_apply _ _ _ _ (ix2 0 (classOf q)) fun a => ?_]
    · generalize classOf q = k
      pointwise
      exact (BitVec.ofNat_add 1 k.val).symm
    · fin_cases a <;> rfl

/-- Which scores count, from the scores and their boxes. -/
theorem read_counts (x38 : FVec Ideal (s2 8 698560) .f32) (x47 : FVec Ideal (s3 8 698560 4) .f32)
    (h38 : after hostOps0 V (Proc.devRef .tc main_v38) = x38) (h47 : after hostOps0 V (Proc.devRef .tc main_v47) = x47) :
    after hostOps0 V (Proc.devRef .tc main_v65)
    = (andi (andi (cmpf .ogt x38 (broadcastInDim S8x698560 ![] bcast_S_S8x698560 (constant S_ .f32 0x3D4CCCCD#32)))
        (cmpf .oge (subf (shapeCast S8x698560 (extractStridedSlice S8x698560x1 ![0, 0, 2] x47 slices_S8x698560x4_S8x698560x1_0_0_2) shapeCasts_S8x698560x1_S8x698560)
            (shapeCast S8x698560 (extractStridedSlice S8x698560x1 ![0, 0, 0] x47 slices_S8x698560x4_S8x698560x1_0_0_0) shapeCasts_S8x698560x1_S8x698560))
          (broadcastInDim S8x698560 ![] bcast_S_S8x698560 (constant S_ .f32 0x3C23D70A#32))))
        (cmpf .oge (subf (shapeCast S8x698560 (extractStridedSlice S8x698560x1 ![0, 0, 3] x47 slices_S8x698560x4_S8x698560x1_0_0_3) shapeCasts_S8x698560x1_S8x698560)
            (shapeCast S8x698560 (extractStridedSlice S8x698560x1 ![0, 0, 1] x47 slices_S8x698560x4_S8x698560x1_0_0_1) shapeCasts_S8x698560x1_S8x698560))
          (broadcastInDim S8x698560 ![] bcast_S_S8x698560 (constant S_ .f32 0x3C23D70A#32))) : IVec (s2 8 698560) 1) := by
  rw [← h38, ← h47]
  after_results
  rfl

/-- The number for a score that does not count. -/
theorem read_cst_9 : after hostOps0 V (Proc.devRef .tc main_cst_9) = constant (F := Ideal) s0 .f32 0xBF800000#32 := by
  after_results

/-- The scores, minus one where they do not count. -/
theorem read_masked (x65 : IVec (s2 8 698560) 1) (x38 : FVec Ideal (s2 8 698560) .f32) (h65 : V (Proc.devRef .tc main_v65) = x65) (h38 : V (Proc.devRef .tc main_v38) = x38)
    (hc : V (Proc.devRef .tc main_cst_9) = constant (F := Ideal) s0 .f32 0xBF800000#32) :
    after hostOps0_1 V (Proc.devRef .tc main_v66)
    = (select x65 x38 (broadcastInDim S8x698560 ![] bcast_S_S8x698560 (constant (F := Ideal) s0 .f32 0xBF800000#32)) : FVec Ideal (s2 8 698560) .f32) := by
  rw [← h65, ← h38, ← hc]
  after_results
  rfl

/-- The masked scores. -/
theorem flat_arr (x0 : FVec Ideal (s3 8 8732 81) .f32) (x1 : FVec Ideal (s3 8 8732 4) .f32) (x2 : FVec Ideal (s2 8732 4) .f32)
    (h0 : V (Proc.devRef .tc main_arg0) = x0) (h1 : V (Proc.devRef .tc main_arg1) = x1) (h2 : V (Proc.devRef .tc main_arg2) = x2) :
    (after hostOps0_1 (after hostOps0 V) (Proc.devRef .tc main_v66) : FVec Ideal (s2 8 698560) .f32) = flat x0 x1 x2 := by
  rw [read_masked _ _ _ rfl rfl (read_cst_9 V), read_counts V _ _ rfl rfl]
  refine cells2 _ _ fun b q => ?_
  have hp := prob_cell V x0 h0 b q
  have hb := boxes_cell V x1 x2 h1 h2 b q
  generalize (after hostOps0 V (Proc.devRef .tc main_v38) : FVec Ideal (s2 8 698560) .f32) = x38 at hp ⊢
  generalize (after hostOps0 V (Proc.devRef .tc main_v47) : FVec Ideal (s3 8 698560 4) .f32) = x47 at hb ⊢
  refine (congrArg (fun y => Scalar.select y (x38 (ix2 b q)) (Ideal.ofBits FTy.f32 0xBF800000#32)) (counts_cell _ _ _ _ _ _ x38 x47 b q)).trans ?_
  rw [hp, show (fun k => x47 (ix3 b q k)) = boxAt x1 x2 b (priorOf q) from funext hb]
  rfl

end Cert.ReferenceIdeal.Value
end
-- ==== Proof.RStage.lean ====
/- The reference's stretches between its flat rows and its greedy loop, one result each. -/
module

public import proofs.«01_k».proof.Proof.RRun
public import proofs.«01_k».proof.Proof.Cand
public import Idealize.ShloMosaic.Lib.StableHlo.ReadAt
public import Idealize.ShloMosaic.Lib.StableHlo.RunRead

@[expose] public section

set_option maxRecDepth 16384

noncomputable section

namespace Cert.ReferenceIdeal.Value

open Cert.ReferenceIdeal.Gen
open Idealize.ShloMosaic Idealize.ShloMosaic.TcCoe Cert.Nms Idealize.ShloMosaic.Tactic
open StableHlo (after)

variable (V : Valuation τ sig (Elt Ideal))

/-- The best thousand of each row: the values. -/
theorem read_values (x : FVec Ideal (s2 8 698560) .f32) (h : V (Proc.devRef .tc main_v66) = x) :
    (after hostOps0_2 V (Proc.devRef .tc main_values) : FVec Ideal (s2 8 1000) .f32) = (Host.topK (s2 8 1000) 1 (FloatOps.cmpfTotal .gt) x fits_scores).1 := by
  rw [← h]
  after_results

/-- The same, the positions. -/
theorem read_indices (x : FVec Ideal (s2 8 698560) .f32) (h : V (Proc.devRef .tc main_v66) = x) :
    (after hostOps0_2 V (Proc.devRef .tc main_indices) : IVec (s2 8 1000) 32) = (Host.topK (s2 8 1000) 1 (FloatOps.cmpfTotal .gt) x fits_scores).2 := by
  rw [← h]
  after_results

/-- The positions as a column. -/
theorem read_places (x : FVec Ideal (s2 8 698560) .f32) (h : V (Proc.devRef .tc main_v66) = x) (b : Fin 8) (i : Fin 1000) :
    (after hostOps0_2 V (Proc.devRef .tc main_v67) : IVec (s3 8 1000 1) 32) (ix3 b i 0) = BitVec.ofNat 32 (best x fits_scores b i).val := by
  rw [← best_index x fits_scores b i, ← h]
  after_reads_at

/-- The candidates' boxes: the rows at the positions. -/
theorem read_cbox (x : FVec Ideal (s3 8 698560 4) .f32) (q : Fin 698560) (b : Fin 8) (i : Fin 1000) (k : Fin 4) (hx : V (Proc.devRef .tc main_v47) = x)
    (h : (V (Proc.devRef .tc main_v67) : IVec (s3 8 1000 1) 32) (ix3 b i 0) = BitVec.ofNat 32 q.val) :
    (after hostOps0_3 V (Proc.devRef .tc main_v68) : FVec Ideal (s3 8 1000 4) .f32) (ix3 b i k) = x (ix3 b q k) := by
  have e : (after hostOps0_3 V (Proc.devRef .tc main_v68) : FVec Ideal (s3 8 1000 4) .f32)
      = takeRows bcast_S_S8x1000x1 bcast_S1_S1x1x1_2 bcast_S1x1x1_S8x1000x1_0_1_2 reducesTo_S8x1000x1_S8x1000_d2 h_S_ bcast_S8x1000_S8x1000x4_0_1
          gather_S8x698560x4_S8x1000x1_S8x1000x4_2_1_0_0_1_2_114 698560#32 (BitVec.ofNat 32 698559)
          (broadcastInDim (s3 8 1000 4) ![] bcast_S_S8x1000x4 (constant s0 .f32 0x7FC00000#32)) x (V (Proc.devRef .tc main_v67)) := by
    rw [← hx]
    after_results
    rfl
  rw [e]
  exact takeRows_apply _ _ _ _ _ _ _ rfl rfl rfl rfl rfl rfl _ 698559 _ _ _ _ _ _ q (by decide) rfl h

/-- The candidates' scores: the cells at the positions. -/
theorem read_cscore (x : FVec Ideal (s2 8 698560) .f32) (q : Fin 698560) (b : Fin 8) (i : Fin 1000) (hx : V (Proc.devRef .tc main_v38) = x)
    (h : (V (Proc.devRef .tc main_indices) : IVec (s2 8 1000) 32) (ix2 b i) = BitVec.ofNat 32 q.val) :
    (after hostOps0_4 V (Proc.devRef .tc main_v69) : FVec Ideal (s2 8 1000) .f32) (ix2 b i) = x (ix2 b q) := by
  have e : (after hostOps0_4 V (Proc.devRef .tc main_v69) : FVec Ideal (s2 8 1000) .f32)
      = takeCells bcast_S_S8x1000 shapeCasts_S8x1000_S8x1000x1 bcast_S_S8x1000x1 bcast_S1_S1x1x1_2 bcast_S1x1x1_S8x1000x1_0_1_2 reducesTo_S8x1000x1_S8x1000_d2 h_S_
          gather_S8x698560_S8x1000x1_S8x1000_n_1_0_0_1_2_11 698560#32 (BitVec.ofNat 32 698559)
          (broadcastInDim (s2 8 1000) ![] bcast_S_S8x1000 (constant (F := Ideal) s0 .f32 0x7FC00000#32)) x (V (Proc.devRef .tc main_indices)) := by
    rw [← hx]
    after_results
    rfl
  rw [e]
  exact takeCells_apply _ _ _ _ _ _ _ _ rfl rfl rfl rfl rfl rfl _ 698559 _ _ _ _ _ q (by decide) rfl h

/-- The candidates' labels: the labels at the positions. -/
theorem read_label (x : IVec (s1 698560) 32) (q : Fin 698560) (b : Fin 8) (i : Fin 1000) (hx : V (Proc.devRef .tc main_v44) = x)
    (h : (V (Proc.devRef .tc main_indices) : IVec (s2 8 1000) 32) (ix2 b i) = BitVec.ofNat 32 q.val) :
    (after hostOps0_5 V (Proc.devRef .tc main_v76) : IVec (s2 8 1000) 32) (ix2 b i) = x (ix1 q) := by
  have e : (after hostOps0_5 V (Proc.devRef .tc main_v76) : IVec (s2 8 1000) 32)
      = Host.gather gather_S698560_S8x1000x1_S8x1000_n_0_n_n_0_2_1 x
          (broadcastInDim S8x1000x1 ![0, 1] bcast_S8x1000_S8x1000x1_0_1 (wrapAt bcast_S_S8x1000 698560#32 (V (Proc.devRef .tc main_indices)))) := by
    rw [← hx]
    after_results
    rfl
  rw [e]
  refine gather_flat _ rfl rfl rfl rfl rfl rfl x _ b i q (by decide) ?_
  rw [broadcastInDim_apply _ _ _ (ix3 b i 0) (ix2 b i) fun a => ?_]
  · exact wrapAt_apply _ _ _ _ (by omega) h
  · fin_cases a <;> rfl

/-- Which candidates count, as bits. -/
theorem read_valid (x : EReal) (b : Fin 8) (i : Fin 1000) (h : (V (Proc.devRef .tc main_values) : FVec Ideal (s2 8 1000) .f32) (ix2 b i) = x) :
    (after hostOps0_5 V (Proc.devRef .tc main_v78) : IVec (s2 8 1000) 1) (ix2 b i) = BitVec.ofBool (decide (0 < x)) := by
  after_reads_at
  rw [h]

/-- The boxes moved apart by label. -/
theorem read_moved (x68 : FVec Ideal (s3 8 1000 4) .f32) (x76 : IVec (s2 8 1000) 32) (h68 : V (Proc.devRef .tc main_v68) = x68) (h76 : after hostOps0_5 V (Proc.devRef .tc main_v76) = x76) :
    after hostOps0_5 V (Proc.devRef .tc main_v88)
    = (addf x68 (broadcastInDim S8x1000x4 ![0, 1, 2] bcast_S8x1000x1_S8x1000x4_0_1_2 (broadcastInDim S8x1000x1 ![0, 1] bcast_S8x1000_S8x1000x1_0_1
        (mulf (sitofp .f32 x76) (broadcastInDim S8x1000 ![0, 1] bcast_S8x1_S8x1000_0_1
          (addf (broadcastInDim S8x1 ![0] bcast_S8_S8x1_0 (Host.reduce FloatOps.maximumf x68 (constant S_ .f32 0xFF800000#32) reducesTo_S8x1000x4_S8_d1_2 h_S_))
            (broadcastInDim S8x1 ![] bcast_S_S8x1 (constant S_ .f32 0x3F800000#32))))))) : FVec Ideal (s3 8 1000 4) .f32) := by
  rw [← h68, ← h76]
  after_results

/-- One moved coordinate. -/
theorem moved_cell (r : Fin 1000 → Fin 4 → EReal) (l : BitVec 32) (b : Fin 8) (i : Fin 1000) (k : Fin 4)
    (hr : ∀ i k, (V (Proc.devRef .tc main_v68) : FVec Ideal (s3 8 1000 4) .f32) (ix3 b i k) = r i k)
    (hl : (after hostOps0_5 V (Proc.devRef .tc main_v76) : IVec (s2 8 1000) 32) (ix2 b i) = l) :
    (after hostOps0_5 V (Proc.devRef .tc main_v88) : FVec Ideal (s3 8 1000 4) .f32) (ix3 b i k)
      = r i k + FloatOps.sitofp (F := Ideal) .f32 l * (Finset.fold max lowest (fun x : Fin 1000 × Fin 4 => r x.1 x.2) Finset.univ + 1) := by
  rw [read_moved V _ _ rfl rfl]
  generalize (after hostOps0_5 V (Proc.devRef .tc main_v76) : IVec (s2 8 1000) 32) = x76 at hl ⊢
  generalize (V (Proc.devRef .tc main_v68) : FVec Ideal (s3 8 1000 4) .f32) = x68 at hr ⊢
  pointwise
  simp only [hr, hl]
  rfl

/-- The moved boxes' widths. -/
theorem read_width (r : Fin 1000 → Fin 4 → EReal) (b : Fin 8) (hr : ∀ i k, (after hostOps0_5 V (Proc.devRef .tc main_v88) : FVec Ideal (s3 8 1000 4) .f32) (ix3 b i k) = r i k) (i : Fin 1000) :
    (after hostOps0_5 V (Proc.devRef .tc main_v93) : FVec Ideal (s2 8 1000) .f32) (ix2 b i) = r i 2 - r i 0 := by
  have e (x : FVec Ideal (s3 8 1000 4) .f32) (hx : after hostOps0_5 V (Proc.devRef .tc main_v88) = x) : after hostOps0_5 V (Proc.devRef .tc main_v93)
      = (subf (shapeCast S8x1000 (extractStridedSlice S8x1000x1 ![0, 0, 2] x slices_S8x1000x4_S8x1000x1_0_0_2) shapeCasts_S8x1000x1_S8x1000)
        (shapeCast S8x1000 (extractStridedSlice S8x1000x1 ![0, 0, 0] x slices_S8x1000x4_S8x1000x1_0_0_0) shapeCasts_S8x1000x1_S8x1000) : FVec Ideal (s2 8 1000) .f32) := by
    rw [← hx]
    after_results
    rfl
  rw [e _ rfl]
  generalize (after hostOps0_5 V (Proc.devRef .tc main_v88) : FVec Ideal (s3 8 1000 4) .f32) = x at hr ⊢
  pointwise
  rw [← hr, ← hr]

/-- The widths' lower bound. -/
theorem read_c_15 : after hostOps0_5 V (Proc.devRef .tc main_c_15) = constantI s0 32 0#32 := by
  after_results

/-- The widths, nothing where negative. -/
theorem read_wide (x : EReal) (b : Fin 8) (i : Fin 1000) (hc : V (Proc.devRef .tc main_c_15) = constantI s0 32 0#32) (hx : (V (Proc.devRef .tc main_v93) : FVec Ideal (s2 8 1000) .f32) (ix2 b i) = x) :
    (after hostOps0_6 V (Proc.devRef .tc main_v94) : FVec Ideal (s2 8 1000) .f32) (ix2 b i) = max 0 x := by
  after_reads_at
  rw [hc, hx]
  exact congrArg (max · x) word_zero

/-- The moved boxes' heights. -/
theorem read_height (r : Fin 1000 → Fin 4 → EReal) (b : Fin 8) (hr : ∀ i k, (V (Proc.devRef .tc main_v88) : FVec Ideal (s3 8 1000 4) .f32) (ix3 b i k) = r i k) (i : Fin 1000) :
    (after hostOps0_7 V (Proc.devRef .tc main_v99) : FVec Ideal (s2 8 1000) .f32) (ix2 b i) = r i 3 - r i 1 := by
  after_reads_at
  rw [← hr, ← hr]

/-- The heights' lower bound. -/
theorem read_c_16 : after hostOps0_7 V (Proc.devRef .tc main_c_16) = constantI s0 32 0#32 := by
  after_results

/-- The heights, nothing where negative. -/
theorem read_high (x : EReal) (b : Fin 8) (i : Fin 1000) (hc : V (Proc.devRef .tc main_c_16) = constantI s0 32 0#32) (hx : (V (Proc.devRef .tc main_v99) : FVec Ideal (s2 8 1000) .f32) (ix2 b i) = x) :
    (after hostOps0_8 V (Proc.devRef .tc main_v100) : FVec Ideal (s2 8 1000) .f32) (ix2 b i) = max 0 x := by
  after_reads_at
  rw [hc, hx]
  exact congrArg (max · x) word_zero

/-- The moved boxes' areas. -/
theorem read_area (x y : EReal) (b : Fin 8) (i : Fin 1000) (hx : (V (Proc.devRef .tc main_v94) : FVec Ideal (s2 8 1000) .f32) (ix2 b i) = x)
    (hy : (V (Proc.devRef .tc main_v100) : FVec Ideal (s2 8 1000) .f32) (ix2 b i) = y) :
    (after hostOps0_9 V (Proc.devRef .tc main_v101) : FVec Ideal (s2 8 1000) .f32) (ix2 b i) = x * y := by
  after_reads_at
  rw [hx, hy]

/-- The shared extent of two boxes on one axis, before its lower bound. -/
theorem read_extent2 (r : Fin 1000 → Fin 4 → EReal) (b : Fin 8) (hr : ∀ i k, (V (Proc.devRef .tc main_v88) : FVec Ideal (s3 8 1000 4) .f32) (ix3 b i k) = r i k) (i j : Fin 1000) (a : Fin 2) :
    (after hostOps0_9 V (Proc.devRef .tc main_v116) : FVec Ideal (⟨4, ![8, 1000, 1000, 2]⟩ : Shape) .f32) (ix4 b i j a)
      = min (r i ⟨2 + a.val, by omega⟩) (r j ⟨2 + a.val, by omega⟩) - max (r i ⟨a.val, by omega⟩) (r j ⟨a.val, by omega⟩) := by
  after_reads_at
  simp only [hr]

/-- The extents' lower bound. -/
theorem read_c_17 : after hostOps0_9 V (Proc.devRef .tc main_c_17) = constantI s0 32 0#32 := by
  after_results

/-- The shared extents, nothing where negative. -/
theorem read_meet (x : EReal) (b : Fin 8) (i j : Fin 1000) (a : Fin 2) (hc : V (Proc.devRef .tc main_c_17) = constantI s0 32 0#32)
    (hx : (V (Proc.devRef .tc main_v116) : FVec Ideal (⟨4, ![8, 1000, 1000, 2]⟩ : Shape) .f32) (ix4 b i j a) = x) :
    (after hostOps0_10 V (Proc.devRef .tc main_v117) : FVec Ideal (⟨4, ![8, 1000, 1000, 2]⟩ : Shape) .f32) (ix4 b i j a) = max 0 x := by
  after_reads_at
  rw [hc, hx]
  exact congrArg (max · x) word_zero

end Cert.ReferenceIdeal.Value
end
-- ==== Proof.RTail.lean ====
/- The reference's stretches after its greedy loop, one result each, and the one that prepares the loop. -/
module

public import proofs.«01_k».proof.Proof.RRun
public import proofs.«01_k».proof.Proof.Cand
public import Idealize.ShloMosaic.Lib.StableHlo.ReadAt
public import Idealize.ShloMosaic.Lib.StableHlo.RunRead

@[expose] public section

set_option maxRecDepth 16384

noncomputable section

namespace Cert.ReferenceIdeal.Value

open Cert.ReferenceIdeal.Gen
open Idealize.ShloMosaic Idealize.ShloMosaic.TcCoe Cert.Nms Idealize.ShloMosaic.Tactic
open StableHlo (after)

variable (V : Valuation τ sig (Elt Ideal))

open Classical in
/-- The overlaps as the loop finds them. -/
theorem read_overlaps (e : Fin 2 → EReal) (s t : EReal) (p q : Prop) (b : Fin 8) (i j : Fin 1000)
    (he : ∀ a, (V (Proc.devRef .tc main_v117) : FVec Ideal (⟨4, ![8, 1000, 1000, 2]⟩ : Shape) .f32) (ix4 b i j a) = e a)
    (hs : (V (Proc.devRef .tc main_v101) : FVec Ideal (s2 8 1000) .f32) (ix2 b i) = s) (ht : (V (Proc.devRef .tc main_v101) : FVec Ideal (s2 8 1000) .f32) (ix2 b j) = t)
    (hp : (V (Proc.devRef .tc main_v78) : IVec (s2 8 1000) 1) (ix2 b i) = BitVec.ofBool (decide p))
    (hq : (V (Proc.devRef .tc main_v78) : IVec (s2 8 1000) 1) (ix2 b j) = BitVec.ofBool (decide q)) :
    (after hostOps0_11 V (Proc.devRef .tc main_v140_0) : FVec Ideal (s3 8 1000 1000) .f32) (ix3 b i j)
      = Ideal.div (e 0 * e 1) (max (s + t - e 0 * e 1) (Ideal.ofBits FTy.f32 0x3089705F#32)) * flag (p ∧ q) := by
  after_reads_at
  simp only [id]
  pointwise
  rw [he, he, hs, ht, hp, hq, WordCmp.andi_ofBool, ← Bool.decide_and, bit_flag]

/-- The loop's row of positions. -/
theorem read_positions (j : Fin 1000) : (after hostOps0_11 V (Proc.devRef .tc main_v140_1) : IVec (s1 1000) 32) (ix1 j) = BitVec.ofNat 32 j.val := by
  after_reads_at
  rfl

/-- The loop starts at candidate zero. -/
theorem read_start : (after hostOps0_11 V (Proc.devRef .tc main_v140_3) : IVec s0 32) = constantI s0 32 0#32 := by
  after_results
  rfl

/-- The loop starts with every candidate that counts. -/
theorem read_starting (x : IVec (s2 8 1000) 1) (h : V (Proc.devRef .tc main_v78) = x) : after hostOps0_11 V (Proc.devRef .tc main_v140_4) = x := by
  rw [← h]
  after_results
  rfl

/-- Which candidates are left. -/
theorem read_alive (p q : Prop) [Decidable p] [Decidable q] (b : Fin 8) (i : Fin 1000)
    (hp : (V (Proc.devRef .tc main_v140_4) : IVec (s2 8 1000) 1) (ix2 b i) = BitVec.ofBool (decide p))
    (hq : (V (Proc.devRef .tc main_v78) : IVec (s2 8 1000) 1) (ix2 b i) = BitVec.ofBool (decide q)) :
    (after hostOps0_12 V (Proc.devRef .tc main_v141) : IVec (s2 8 1000) 1) (ix2 b i) = BitVec.ofBool (decide (p ∧ q)) := by
  after_reads_at
  rw [hp, hq, WordCmp.andi_ofBool, ← Bool.decide_and]

/-- The entry of a suppressed candidate. -/
theorem read_cst_21 : after hostOps0_12 V (Proc.devRef .tc main_cst_21) = constant (F := Ideal) s0 .f32 0xBF800000#32 := by
  after_results

/-- The candidates' scores, minus one where suppressed. -/
theorem read_left (x : EReal) (p : Prop) [Decidable p] (b : Fin 8) (i : Fin 1000)
    (hc : V (Proc.devRef .tc main_cst_21) = constant (F := Ideal) s0 .f32 0xBF800000#32)
    (hx : (V (Proc.devRef .tc main_values) : FVec Ideal (s2 8 1000) .f32) (ix2 b i) = x)
    (hp : (V (Proc.devRef .tc main_v141) : IVec (s2 8 1000) 1) (ix2 b i) = BitVec.ofBool (decide p)) :
    (after hostOps0_13 V (Proc.devRef .tc main_v142) : FVec Ideal (s2 8 1000) .f32) (ix2 b i) = if p then x else Ideal.ofBits .f32 0xBF800000#32 := by
  after_reads_at
  simp only [id]
  rw [hp, select_decide, hx, hc]
  rfl

/-- The best hundred of what remains: the values. -/
theorem read_values_22 (x : FVec Ideal (s2 8 1000) .f32) (h : V (Proc.devRef .tc main_v142) = x) :
    (after hostOps0_14 V (Proc.devRef .tc main_values_22) : FVec Ideal (s2 8 100) .f32)
      = (Host.topK (s2 8 100) 1 (FloatOps.cmpfTotal .gt) x fits_kept).1 := by
  rw [← h]
  after_results

/-- The same, the positions. -/
theorem read_indices_23 (x : FVec Ideal (s2 8 1000) .f32) (h : V (Proc.devRef .tc main_v142) = x) :
    (after hostOps0_14 V (Proc.devRef .tc main_indices_23) : IVec (s2 8 100) 32)
      = (Host.topK (s2 8 100) 1 (FloatOps.cmpfTotal .gt) x fits_kept).2 := by
  rw [← h]
  after_results

/-- Which of them are detections. -/
theorem read_found (x : FVec Ideal (s2 8 1000) .f32) (h : V (Proc.devRef .tc main_v142) = x) (b : Fin 8) (i : Fin 100) :
    (after hostOps0_14 V (Proc.devRef .tc main_v144) : IVec (s2 8 100) 1) (ix2 b i) = BitVec.ofBool (decide (0 < x (ix2 b (best x fits_kept b i)))) := by
  rw [← best_value x fits_kept b i, ← h]
  after_reads_at

/-- The same as a column. -/
theorem read_found_column (x : FVec Ideal (s2 8 1000) .f32) (h : V (Proc.devRef .tc main_v142) = x) (b : Fin 8) (i : Fin 100) :
    (after hostOps0_14 V (Proc.devRef .tc main_v145) : IVec (s3 8 100 1) 1) (ix3 b i 0) = BitVec.ofBool (decide (0 < x (ix2 b (best x fits_kept b i)))) := by
  rw [← best_value x fits_kept b i, ← h]
  after_reads_at

/-- The positions as a column. -/
theorem read_picks (x : FVec Ideal (s2 8 1000) .f32) (h : V (Proc.devRef .tc main_v142) = x) (b : Fin 8) (i : Fin 100) :
    (after hostOps0_14 V (Proc.devRef .tc main_v146) : IVec (s3 8 100 1) 32) (ix3 b i 0) = BitVec.ofNat 32 (best x fits_kept b i).val := by
  rw [← best_index x fits_kept b i, ← h]
  after_reads_at

/-- The detections' boxes: the candidates' at the positions. -/
theorem read_fbox (q : Fin 1000) (b : Fin 8) (i : Fin 100) (k : Fin 4)
    (h : (V (Proc.devRef .tc main_v146) : IVec (s3 8 100 1) 32) (ix3 b i 0) = BitVec.ofNat 32 q.val) :
    (after hostOps0_15 V (Proc.devRef .tc main_v147) : FVec Ideal (s3 8 100 4) .f32) (ix3 b i k) = (V (Proc.devRef .tc main_v68) : FVec Ideal (s3 8 1000 4) .f32) (ix3 b q k) := by
  have e : (after hostOps0_15 V (Proc.devRef .tc main_v147) : FVec Ideal (s3 8 100 4) .f32)
      = takeRows bcast_S_S8x100x1 bcast_S1_S1x1x1_2 bcast_S1x1x1_S8x100x1_0_1_2 reducesTo_S8x100x1_S8x100_d2 h_S_ bcast_S8x100_S8x100x4_0_1
          gather_S8x1000x4_S8x100x1_S8x100x4_2_1_0_0_1_2_114 1000#32 (BitVec.ofNat 32 999)
          (broadcastInDim (s3 8 100 4) ![] bcast_S_S8x100x4 (constant s0 .f32 0x7FC00000#32)) (V (Proc.devRef .tc main_v68)) (V (Proc.devRef .tc main_v146)) := by
    after_results
    rfl
  rw [e]
  exact takeRows_apply _ _ _ _ _ _ _ rfl rfl rfl rfl rfl rfl _ 999 _ _ _ _ _ _ q (by decide) rfl h

/-- The number where there is no detection, for boxes. -/
theorem read_cst_25 : after hostOps0_16 V (Proc.devRef .tc main_cst_25) = constant (F := Ideal) s0 .f32 0x00000000#32 := by
  after_results

/-- The detections' boxes, nothing where there is none. -/
theorem read_outBoxes (x : EReal) (p : Prop) [Decidable p] (b : Fin 8) (i : Fin 100) (k : Fin 4)
    (hc : V (Proc.devRef .tc main_cst_25) = constant (F := Ideal) s0 .f32 0x00000000#32)
    (hx : (V (Proc.devRef .tc main_v147) : FVec Ideal (s3 8 100 4) .f32) (ix3 b i k) = x)
    (hp : (V (Proc.devRef .tc main_v145) : IVec (s3 8 100 1) 1) (ix3 b i 0) = BitVec.ofBool (decide p)) :
    (after hostOps0_17 V (Proc.devRef .tc main_v148) : FVec Ideal (s3 8 100 4) .f32) (ix3 b i k) = if p then x else 0 := by
  after_reads_at
  simp only [id]
  rw [hp, select_decide, hx, hc]
  exact if_congr Iff.rfl rfl Ideal.ofBits_zero_f32

/-- The detections' scores: the candidates' at the positions. -/
theorem read_fscore (q : Fin 1000) (b : Fin 8) (i : Fin 100)
    (h : (V (Proc.devRef .tc main_indices_23) : IVec (s2 8 100) 32) (ix2 b i) = BitVec.ofNat 32 q.val) :
    (after hostOps0_18 V (Proc.devRef .tc main_v149) : FVec Ideal (s2 8 100) .f32) (ix2 b i) = (V (Proc.devRef .tc main_v69) : FVec Ideal (s2 8 1000) .f32) (ix2 b q) := by
  have e : (after hostOps0_18 V (Proc.devRef .tc main_v149) : FVec Ideal (s2 8 100) .f32)
      = takeCells bcast_S_S8x100 shapeCasts_S8x100_S8x100x1 bcast_S_S8x100x1 bcast_S1_S1x1x1_2 bcast_S1x1x1_S8x100x1_0_1_2 reducesTo_S8x100x1_S8x100_d2 h_S_
          gather_S8x1000_S8x100x1_S8x100_n_1_0_0_1_2_11 1000#32 (BitVec.ofNat 32 999)
          (broadcastInDim (s2 8 100) ![] bcast_S_S8x100 (constant (F := Ideal) s0 .f32 0x7FC00000#32)) (V (Proc.devRef .tc main_v69)) (V (Proc.devRef .tc main_indices_23)) := by
    after_results
    rfl
  rw [e]
  exact takeCells_apply _ _ _ _ _ _ _ _ rfl rfl rfl rfl rfl rfl _ 999 _ _ _ _ _ q (by decide) rfl h

/-- The number where there is no detection, for scores. -/
theorem read_cst_26 : after hostOps0_19 V (Proc.devRef .tc main_cst_26) = constant (F := Ideal) s0 .f32 0x00000000#32 := by
  after_results

/-- The detections' scores, nothing where there is none. -/
theorem read_outScores (x : EReal) (p : Prop) [Decidable p] (b : Fin 8) (i : Fin 100)
    (hc : V (Proc.devRef .tc main_cst_26) = constant (F := Ideal) s0 .f32 0x00000000#32)
    (hx : (V (Proc.devRef .tc main_v149) : FVec Ideal (s2 8 100) .f32) (ix2 b i) = x)
    (hp : (V (Proc.devRef .tc main_v144) : IVec (s2 8 100) 1) (ix2 b i) = BitVec.ofBool (decide p)) :
    (after hostOps0_20 V (Proc.devRef .tc main_v150) : FVec Ideal (s2 8 100) .f32) (ix2 b i) = if p then x else 0 := by
  after_reads_at
  simp only [id]
  rw [hp, select_decide, hx, hc]
  exact if_congr Iff.rfl rfl Ideal.ofBits_zero_f32

/-- The detections' labels: the candidates' at the positions. -/
theorem read_flab (q : Fin 1000) (b : Fin 8) (i : Fin 100)
    (h : (V (Proc.devRef .tc main_indices_23) : IVec (s2 8 100) 32) (ix2 b i) = BitVec.ofNat 32 q.val) :
    (after hostOps0_21 V (Proc.devRef .tc main_v151) : IVec (s2 8 100) 32) (ix2 b i) = (V (Proc.devRef .tc main_v76) : IVec (s2 8 1000) 32) (ix2 b q) := by
  have e : (after hostOps0_21 V (Proc.devRef .tc main_v151) : IVec (s2 8 100) 32)
      = takeCells bcast_S_S8x100 shapeCasts_S8x100_S8x100x1 bcast_S_S8x100x1 bcast_S1_S1x1x1_2 bcast_S1x1x1_S8x100x1_0_1_2 reducesTo_S8x100x1_S8x100_d2 h_S_
          gather_S8x1000_S8x100x1_S8x100_n_1_0_0_1_2_11 1000#32 (BitVec.ofNat 32 999)
          (broadcastInDim (s2 8 100) ![] bcast_S_S8x100 (constantI s0 32 2147483648#32)) (V (Proc.devRef .tc main_v76)) (V (Proc.devRef .tc main_indices_23)) := by
    after_results
    rfl
  rw [e]
  exact takeCells_apply _ _ _ _ _ _ _ _ rfl rfl rfl rfl rfl rfl _ 999 _ _ _ _ _ q (by decide) rfl h

/-- The label where there is no detection. -/
theorem read_c_27 : after hostOps0_22 V (Proc.devRef .tc main_c_27) = constantI s0 32 0#32 := by
  after_results

/-- The detections' labels, zero where there is none. -/
theorem read_outLabels (x : BitVec 32) (p : Prop) [Decidable p] (b : Fin 8) (i : Fin 100)
    (hc : V (Proc.devRef .tc main_c_27) = constantI s0 32 0#32)
    (hx : (V (Proc.devRef .tc main_v151) : IVec (s2 8 100) 32) (ix2 b i) = x)
    (hp : (V (Proc.devRef .tc main_v144) : IVec (s2 8 100) 1) (ix2 b i) = BitVec.ofBool (decide p)) :
    (after hostOps0_23 V (Proc.devRef .tc main_v152) : IVec (s2 8 100) 32) (ix2 b i) = if p then x else 0#32 := by
  after_reads_at
  simp only [id]
  rw [hp, select_decide, hx, hc]
  rfl

/-- The detections' boxes, scaled to their image. -/
theorem read_scaled (x : FVec Ideal (s3 8 100 4) .f32) (t : IVec (s2 8 2) 32) (hx : V (Proc.devRef .tc main_v148) = x) (ht : V (Proc.devRef .tc main_arg3) = t)  :
    (after hostOps0_24 V (Proc.devRef .tc main_v158) : FVec Ideal (s3 8 100 4) .f32) = mulf x (scales t) := by
  rw [← hx, ← ht]
  after_results
  rfl

end Cert.ReferenceIdeal.Value
end
-- ==== Proof.RLoop.lean ====
/- The reference's greedy loop: which candidates remain before each of its rounds. -/
module

public import proofs.«01_k».proof.Proof.RRun
public import proofs.«01_k».proof.Proof.Cand
public import Idealize.ShloMosaic.Lib.WordCmp

@[expose] public section

set_option maxRecDepth 16384

noncomputable section

namespace Cert.ReferenceIdeal.Value

open Cert.ReferenceIdeal.Gen
open Idealize.ShloMosaic Idealize.ShloMosaic.TcCoe Cert.Nms Idealize.ShloMosaic.Tactic
open StableHlo (after)

/-- A word counted from the end when it is negative, as the loop counts its row: a small one is left alone. -/
theorem row_start {n : ℕ} (hn : n < 1000) (w : IVec s0 32) (hw : w = fun _ => BitVec.ofNat 32 n) (y : s0.Idx) :
    (select (cmpi .slt w (constantI s0 32 0#32)) (addi (id w) (constantI s0 32 1000#32)) w y).toInt = (n : ℤ) := by
  subst hw
  show (Scalar.select (IntOp.cmpi .slt (BitVec.ofNat 32 n) 0#32) (IntOp.addi (BitVec.ofNat 32 n) 1000#32) (BitVec.ofNat 32 n)).toInt = (n : ℤ)
  rw [show Scalar.select (IntOp.cmpi .slt (BitVec.ofNat 32 n) 0#32) (IntOp.addi (BitVec.ofNat 32 n) 1000#32) (BitVec.ofNat 32 n) = BitVec.ofNat 32 n from by word_omega]
  rw [BitVec.toInt_eq_toNat_of_lt (by rw [BitVec.toNat_ofNat]; omega), BitVec.toNat_ofNat]
  omega

/-- The loop's row of overlaps, cut out and flattened. -/
theorem row_cell (M : FVec Ideal (s3 8 1000 1000) .f32) {n : ℕ} (hn : n < 1000) (start : Fin 3 → ℤ) (h0 : start 0 = 0) (h1 : start 1 = (n : ℤ)) (h2 : start 2 = 0)
    (hs : (s3 8 1000 1000).Slices (fun _ => 0) (s3 8 1 1000)) (hc : (s3 8 1 1000).ShapeCasts (s2 8 1000)) (b : Fin 8) (j : Fin 1000) :
    shapeCast (s2 8 1000) (Host.dynamicSlice (s3 8 1 1000) M start hs) hc (ix2 b j) = M (ix3 b ⟨n, hn⟩ j) := by
  have hk : (s3 8 1000 1000).Slices ![0, n, 0] (s3 8 1 1000) := by
    refine ⟨rfl, fun a => ?_⟩
    fin_cases a
    · show 0 + 8 ≤ 8; omega
    · show n + 1 ≤ 1000; omega
    · show 0 + 1000 ≤ 1000; omega
  rw [WordCmp.dynamicSlice_eq_extract (s3 8 1 1000) M start hs ![0, n, 0] hk (fun a => by fin_cases a; exacts [h0, h1, h2])]
  refine (shapeCast_apply _ hc _ (ix3 b 0 j) ?_).trans ?_
  · rw [rowMajor_val3 (d := ![8, 1, 1000]) _ 1000 1000 rfl rfl, rowMajor_val2 (d := ![8, 1000]) _ 1000 rfl]
    show b.val * 1000 + 0 * 1000 + j.val = b.val * 1000 + j.val
    omega
  · refine extractStridedSlice_apply ![0, n, 0] M hk (ix3 b 0 j) (ix3 b ⟨n, hn⟩ j) fun a => ?_
    fin_cases a
    · show b.val = 0 + b.val; omega
    · show n = n + 0; omega
    · show j.val = 0 + j.val; omega

/-- The round's own candidate's bit, cut out. -/
theorem bit_cell (K : IVec (s2 8 1000) 1) {n : ℕ} (hn : n < 1000) (start : Fin 2 → ℤ) (h0 : start 0 = 0) (h1 : start 1 = (n : ℤ))
    (hs : (s2 8 1000).Slices (fun _ => 0) (s2 8 1)) (b : Fin 8) :
    Host.dynamicSlice (s2 8 1) K start hs (ix2 b 0) = K (ix2 b ⟨n, hn⟩) := by
  have hk : (s2 8 1000).Slices ![0, n] (s2 8 1) := by
    refine ⟨rfl, fun a => ?_⟩
    fin_cases a
    · show 0 + 8 ≤ 8; omega
    · show n + 1 ≤ 1000; omega
  rw [WordCmp.dynamicSlice_eq_extract (s2 8 1) K start hs ![0, n] hk (fun a => by fin_cases a; exacts [h0, h1])]
  refine extractStridedSlice_apply ![0, n] K hk (ix2 b 0) (ix2 b ⟨n, hn⟩) fun a => ?_
  fin_cases a
  · show b.val = 0 + b.val; omega
  · show n = n + 0; omega

/-- A round's bits, one candidate's: kept, unless overlapped too much by the round's own candidate where that is earlier and kept. -/
theorem round_bits (K : IVec (s2 8 1000) 1) (R : FVec Ideal (s2 8 1000) .f32) (T : IVec (s1 1000) 1) (B : IVec (s2 8 1) 1) (b : Fin 8) (j : Fin 1000) :
    andi K (noti (andi (andi (cmpf .ogt R (broadcastInDim S8x1000 ![] bcast_S_S8x1000 (constant S_ FTy.f32 0x3EE66666#32)))
      (broadcastInDim S8x1000 ![0, 1] bcast_S1x1000_S8x1000_0_1 (broadcastInDim S1x1000 ![1] bcast_S1000_S1x1000_1 T)))
      (broadcastInDim S8x1000 ![0, 1] bcast_S8x1_S8x1000_0_1 B))) (ix2 b j)
    = K (ix2 b j) &&& ~~~ (BitVec.ofBool (decide (Ideal.ofBits FTy.f32 0x3EE66666#32 < R (ix2 b j))) &&& T (ix1 j) &&& B (ix2 b 0)) := by
  pointwise
  rfl

/-- One round on one candidate's bit. -/
theorem round_cell (V : Valuation τ sig (Elt Ideal)) {n : ℕ} (hn : n < 1000) (M : FVec Ideal (s3 8 1000 1000) .f32) (K : IVec (s2 8 1000) 1)
    (hM : V (Proc.devRef .tc main_v140_0) = M) (hp : ∀ j, (V (Proc.devRef .tc main_v140_1) : IVec (s1 1000) 32) (ix1 j) = BitVec.ofNat 32 j.val)
    (hw : (V (Proc.devRef .tc main_v140_3) : IVec s0 32) = fun _ => BitVec.ofNat 32 n) (hK : V (Proc.devRef .tc main_v140_4) = K) (b : Fin 8) (j : Fin 1000) :
    (step_main_v140_4 V : IVec (s2 8 1000) 1) (ix2 b j)
      = K (ix2 b j) &&& ~~~ (BitVec.ofBool (decide (Ideal.ofBits FTy.f32 0x3EE66666#32 < M (ix3 b ⟨n, hn⟩ j)))
          &&& BitVec.ofBool (decide (n < j.val)) &&& K (ix2 b ⟨n, hn⟩)) := by
  unfold step_main_v140_4
  rw [hM, hK]
  have e1 := row_cell M hn (fun k => BitVec.toInt ((![constantI s0 32 0#32, select (cmpi .slt (V (Proc.devRef .tc main_v140_3) : IVec s0 32) (constantI s0 32 0#32))
      (addi (id (V (Proc.devRef .tc main_v140_3))) (constantI s0 32 1000#32)) (V (Proc.devRef .tc main_v140_3)), constantI s0 32 0#32] : Fin 3 → IVec s0 32) k (Shape.Idx.first h_S_)))
    rfl (row_start hn _ hw _) rfl sliceFits_S8x1000x1000_S8x1x1000 shapeCasts_S8x1x1000_S8x1000 b j
  have e2 := bit_cell K hn (fun k => BitVec.toInt ((![constantI s0 32 0#32, select (cmpi .slt (V (Proc.devRef .tc main_v140_3) : IVec s0 32) (constantI s0 32 0#32))
      (addi (id (V (Proc.devRef .tc main_v140_3))) (constantI s0 32 1000#32)) (V (Proc.devRef .tc main_v140_3))] : Fin 2 → IVec s0 32) k (Shape.Idx.first h_S_)))
    rfl (row_start hn _ hw _) sliceFits_S8x1000_S8x1 b
  have e3 : cmpi .sgt (V (Proc.devRef .tc main_v140_1) : IVec (s1 1000) 32) (broadcastInDim S1000 ![] bcast_S_S1000 (id (V (Proc.devRef .tc main_v140_3)))) (ix1 j)
      = BitVec.ofBool (decide (n < j.val)) := by
    rw [hw]
    pointwise
    rw [hp j]
    exact WordCmp.cmpi_sgt_ofNat (w := 32) (by omega) (by omega)
  generalize shapeCast S8x1000 (Host.dynamicSlice S8x1x1000 M _ _) _ = R at e1 ⊢
  generalize Host.dynamicSlice S8x1 K _ _ = B at e2 ⊢
  generalize cmpi .sgt (V (Proc.devRef .tc main_v140_1) : IVec (s1 1000) 32) _ = T at e3 ⊢
  rw [← e1, ← e2, ← e3]
  exact round_bits K R T B b j

/-- A round's bits as truth values. -/
theorem drop_bits (P Q R S : Prop) [Decidable P] [Decidable Q] [Decidable R] [Decidable S] :
    BitVec.ofBool (decide S) &&& ~~~ (BitVec.ofBool (decide P) &&& BitVec.ofBool (decide Q) &&& BitVec.ofBool (decide R))
      = BitVec.ofBool (decide (S ∧ ¬ ((P ∧ Q) ∧ R))) := by
  by_cases P <;> by_cases Q <;> by_cases R <;> by_cases S <;> simp_all

open Classical in
/-- What the loop's buffers hold before round `n`: the overlaps and the positions as at the start, the round's number, and the bit of
    every candidate that remains. -/
theorem rounds (E : Valuation τ sig (Elt Ideal)) (v : Fin 8 → Fin 1000 → Prop) (r : Fin 8 → Fin 1000 → Fin 4 → EReal)
    (hM : ∀ b i j, (E (Proc.devRef .tc main_v140_0) : FVec Ideal (s3 8 1000 1000) .f32) (ix3 b i j) = overlapOf (v b) (r b) i j)
    (hp : ∀ j, (E (Proc.devRef .tc main_v140_1) : IVec (s1 1000) 32) (ix1 j) = BitVec.ofNat 32 j.val)
    (hw : (E (Proc.devRef .tc main_v140_3) : IVec s0 32) = constantI s0 32 0#32)
    (hK : ∀ b j, (E (Proc.devRef .tc main_v140_4) : IVec (s2 8 1000) 1) (ix2 b j) = BitVec.ofBool (decide (v b j))) :
    ∀ n ≤ 1000, (STEP^[n] E) (Proc.devRef .tc main_v140_0) = E (Proc.devRef .tc main_v140_0)
      ∧ (STEP^[n] E) (Proc.devRef .tc main_v140_1) = E (Proc.devRef .tc main_v140_1)
      ∧ ((STEP^[n] E) (Proc.devRef .tc main_v140_3) : IVec s0 32) = (fun _ => BitVec.ofNat 32 n)
      ∧ ∀ b j, ((STEP^[n] E) (Proc.devRef .tc main_v140_4) : IVec (s2 8 1000) 1) (ix2 b j) = BitVec.ofBool (decide (remains (v b) (r b) n j))
  | 0, _ => ⟨rfl, rfl, hw, hK⟩
  | n + 1, hn => by
    obtain ⟨a0, a1, a3, a4⟩ := rounds E v r hM hp hw hK n (by omega)
    rw [Function.iterate_succ_apply']
    generalize STEP^[n] E = X at a0 a1 a3 a4 ⊢
    refine ⟨(STEP_main_v140_0 X).trans a0, (STEP_main_v140_1 X).trans a1, ?_, fun b j => ?_⟩
    · refine (STEP_main_v140_3 X).trans ?_
      unfold step_main_v140_3
      rw [a3]
      funext y
      show BitVec.ofNat 32 n + BitVec.ofNat 32 1 = BitVec.ofNat 32 (n + 1)
      rw [BitVec.ofNat_add]
    · refine (congrFun (STEP_main_v140_4 X) _).trans ?_
      refine (round_cell X (n := n) (by omega) _ _ a0 (fun j => (congrFun a1 _).trans (hp j)) a3 rfl b j).trans ?_
      rw [a4 b j, a4 b ⟨n, by omega⟩, hM b ⟨n, by omega⟩ j]
      have hr : remains (v b) (r b) (n + 1) j ↔ (remains (v b) (r b) n j ∧ ¬ ((Ideal.ofBits FTy.f32 0x3EE66666#32 < overlapOf (v b) (r b) ⟨n, by omega⟩ j ∧ n < j.val) ∧ remains (v b) (r b) n ⟨n, by omega⟩)) := by
        refine and_congr_right' (not_congr ⟨fun ⟨_, h⟩ => ⟨⟨h.1, h.2.1⟩, h.2.2⟩, fun h => ⟨by omega, h.1.1, h.1.2, h.2⟩⟩)
      exact (drop_bits _ _ _ _).trans (congrArg BitVec.ofBool (decide_eq_decide.2 hr.symm))

variable (m : (ℓ : Loc nD τ sig) → Buf (Elt Ideal) ℓ) (c : Dev nD)

open Classical in
/-- The bits the loop ends with: those of the candidates that remain once each has had its turn. -/
theorem U13_alive (v : Fin 8 → Fin 1000 → Prop) (r : Fin 8 → Fin 1000 → Fin 4 → EReal)
    (hM : ∀ b i j, (U12 m c (Proc.devRef .tc main_v140_0) : FVec Ideal (s3 8 1000 1000) .f32) (ix3 b i j) = overlapOf (v b) (r b) i j)
    (hp : ∀ j, (U12 m c (Proc.devRef .tc main_v140_1) : IVec (s1 1000) 32) (ix1 j) = BitVec.ofNat 32 j.val)
    (hw : (U12 m c (Proc.devRef .tc main_v140_3) : IVec s0 32) = constantI s0 32 0#32)
    (hK : ∀ b j, (U12 m c (Proc.devRef .tc main_v140_4) : IVec (s2 8 1000) 1) (ix2 b j) = BitVec.ofBool (decide (v b j))) (b : Fin 8) (j : Fin 1000) :
    (U13 m c (Proc.devRef .tc main_v140_4) : IVec (s2 8 1000) 1) (ix2 b j) = BitVec.ofBool (decide (survives (v b) (r b) j)) := by
  have h := (rounds (U12 m c) v r hM hp hw hK 1000 le_rfl).2.2.2 b j
  refine (congrFun ((U13_carried m c main_v140_4 (by decide)).trans (atK_agree m c 1000 main_v140_4 (by decide))) _).trans ?_
  rw [← U12_entry]
  refine h.trans ?_
  unfold survives
  rfl

end Cert.ReferenceIdeal.Value
end
-- ==== Proof.RChain.lean ====
/- The reference's three results, from the launch to the return: each stage's arrays, in the words of the candidates. -/
module

public import proofs.«01_k».proof.Proof.RFlat
public import proofs.«01_k».proof.Proof.RStage
public import proofs.«01_k».proof.Proof.RTail
public import proofs.«01_k».proof.Proof.RLoop

@[expose] public section

set_option maxRecDepth 16384

noncomputable section

namespace Cert.ReferenceIdeal.Value

open Cert.ReferenceIdeal.Gen
open Idealize.ShloMosaic Idealize.ShloMosaic.TcCoe Cert.Nms
open StableHlo (after)

variable (m : (ℓ : Loc nD τ sig) → Buf (Elt Ideal) ℓ) (c : Dev nD)

/-- `main_v47` reaches boundary 3 as boundary 1 has it. -/
theorem keep_v47_3 : U3 m c (Proc.devRef .tc main_v47) = U1 m c (Proc.devRef .tc main_v47) :=
  ((U3_of m c main_v47 (by decide))).trans (U2_of m c main_v47 (by decide))

/-- `main_v38` reaches boundary 4 as boundary 1 has it. -/
theorem keep_v38_4 : U4 m c (Proc.devRef .tc main_v38) = U1 m c (Proc.devRef .tc main_v38) :=
  (((U4_of m c main_v38 (by decide))).trans (U3_of m c main_v38 (by decide))).trans (U2_of m c main_v38 (by decide))

/-- `main_v44` reaches boundary 5 as boundary 1 has it. -/
theorem keep_v44_5 : U5 m c (Proc.devRef .tc main_v44) = U1 m c (Proc.devRef .tc main_v44) :=
  ((((U5_of m c main_v44 (by decide))).trans (U4_of m c main_v44 (by decide))).trans (U3_of m c main_v44 (by decide))).trans (U2_of m c main_v44 (by decide))

/-- `main_indices` reaches boundary 4 as boundary 3 has it. -/
theorem keep_indices_4 : U4 m c (Proc.devRef .tc main_indices) = U3 m c (Proc.devRef .tc main_indices) :=
  (U4_of m c main_indices (by decide))

/-- `main_indices` reaches boundary 5 as boundary 3 has it. -/
theorem keep_indices_5 : U5 m c (Proc.devRef .tc main_indices) = U3 m c (Proc.devRef .tc main_indices) :=
  ((U5_of m c main_indices (by decide))).trans (U4_of m c main_indices (by decide))

/-- `main_values` reaches boundary 5 as boundary 3 has it. -/
theorem keep_values_5 : U5 m c (Proc.devRef .tc main_values) = U3 m c (Proc.devRef .tc main_values) :=
  ((U5_of m c main_values (by decide))).trans (U4_of m c main_values (by decide))

/-- `main_v68` reaches boundary 5 as boundary 4 has it. -/
theorem keep_v68_5 : U5 m c (Proc.devRef .tc main_v68) = U4 m c (Proc.devRef .tc main_v68) :=
  (U5_of m c main_v68 (by decide))

/-- `main_v88` reaches boundary 7 as boundary 6 has it. -/
theorem keep_v88_7 : U7 m c (Proc.devRef .tc main_v88) = U6 m c (Proc.devRef .tc main_v88) :=
  (U7_of m c main_v88 (by decide))

/-- `main_v94` reaches boundary 9 as boundary 7 has it. -/
theorem keep_v94_9 : U9 m c (Proc.devRef .tc main_v94) = U7 m c (Proc.devRef .tc main_v94) :=
  ((U9_of m c main_v94 (by decide))).trans (U8_of m c main_v94 (by decide))

/-- `main_v88` reaches boundary 9 as boundary 6 has it. -/
theorem keep_v88_9 : U9 m c (Proc.devRef .tc main_v88) = U6 m c (Proc.devRef .tc main_v88) :=
  (((U9_of m c main_v88 (by decide))).trans (U8_of m c main_v88 (by decide))).trans (U7_of m c main_v88 (by decide))

/-- `main_v101` reaches boundary 11 as boundary 10 has it. -/
theorem keep_v101_11 : U11 m c (Proc.devRef .tc main_v101) = U10 m c (Proc.devRef .tc main_v101) :=
  (U11_of m c main_v101 (by decide))

/-- `main_v78` reaches boundary 11 as boundary 6 has it. -/
theorem keep_v78_11 : U11 m c (Proc.devRef .tc main_v78) = U6 m c (Proc.devRef .tc main_v78) :=
  (((((U11_of m c main_v78 (by decide))).trans (U10_of m c main_v78 (by decide))).trans (U9_of m c main_v78 (by decide))).trans (U8_of m c main_v78 (by decide))).trans (U7_of m c main_v78 (by decide))

/-- `main_v78` reaches boundary 13 as boundary 6 has it. -/
theorem keep_v78_13 : U13 m c (Proc.devRef .tc main_v78) = U6 m c (Proc.devRef .tc main_v78) :=
  (((((((U13_of m c main_v78 (by decide) (by decide) (by decide) (by decide) (by decide))).trans (U12_of m c main_v78 (by decide))).trans (U11_of m c main_v78 (by decide))).trans (U10_of m c main_v78 (by decide))).trans (U9_of m c main_v78 (by decide))).trans (U8_of m c main_v78 (by decide))).trans (U7_of m c main_v78 (by decide))

/-- `main_values` reaches boundary 14 as boundary 3 has it. -/
theorem keep_values_14 : U14 m c (Proc.devRef .tc main_values) = U3 m c (Proc.devRef .tc main_values) :=
  (((((((((((U14_of m c main_values (by decide))).trans (U13_of m c main_values (by decide) (by decide) (by decide) (by decide) (by decide))).trans (U12_of m c main_values (by decide))).trans (U11_of m c main_values (by decide))).trans (U10_of m c main_values (by decide))).trans (U9_of m c main_values (by decide))).trans (U8_of m c main_values (by decide))).trans (U7_of m c main_values (by decide))).trans (U6_of m c main_values (by decide))).trans (U5_of m c main_values (by decide))).trans (U4_of m c main_values (by decide))

/-- `main_v68` reaches boundary 16 as boundary 4 has it. -/
theorem keep_v68_16 : U16 m c (Proc.devRef .tc main_v68) = U4 m c (Proc.devRef .tc main_v68) :=
  ((((((((((((U16_of m c main_v68 (by decide))).trans (U15_of m c main_v68 (by decide))).trans (U14_of m c main_v68 (by decide))).trans (U13_of m c main_v68 (by decide) (by decide) (by decide) (by decide) (by decide))).trans (U12_of m c main_v68 (by decide))).trans (U11_of m c main_v68 (by decide))).trans (U10_of m c main_v68 (by decide))).trans (U9_of m c main_v68 (by decide))).trans (U8_of m c main_v68 (by decide))).trans (U7_of m c main_v68 (by decide))).trans (U6_of m c main_v68 (by decide))).trans (U5_of m c main_v68 (by decide))

/-- `main_v145` reaches boundary 18 as boundary 16 has it. -/
theorem keep_v145_18 : U18 m c (Proc.devRef .tc main_v145) = U16 m c (Proc.devRef .tc main_v145) :=
  ((U18_of m c main_v145 (by decide))).trans (U17_of m c main_v145 (by decide))

/-- `main_v147` reaches boundary 18 as boundary 17 has it. -/
theorem keep_v147_18 : U18 m c (Proc.devRef .tc main_v147) = U17 m c (Proc.devRef .tc main_v147) :=
  (U18_of m c main_v147 (by decide))

/-- `main_indices_23` reaches boundary 19 as boundary 16 has it. -/
theorem keep_indices_23_19 : U19 m c (Proc.devRef .tc main_indices_23) = U16 m c (Proc.devRef .tc main_indices_23) :=
  (((U19_of m c main_indices_23 (by decide))).trans (U18_of m c main_indices_23 (by decide))).trans (U17_of m c main_indices_23 (by decide))

/-- `main_v69` reaches boundary 19 as boundary 5 has it. -/
theorem keep_v69_19 : U19 m c (Proc.devRef .tc main_v69) = U5 m c (Proc.devRef .tc main_v69) :=
  ((((((((((((((U19_of m c main_v69 (by decide))).trans (U18_of m c main_v69 (by decide))).trans (U17_of m c main_v69 (by decide))).trans (U16_of m c main_v69 (by decide))).trans (U15_of m c main_v69 (by decide))).trans (U14_of m c main_v69 (by decide))).trans (U13_of m c main_v69 (by decide) (by decide) (by decide) (by decide) (by decide))).trans (U12_of m c main_v69 (by decide))).trans (U11_of m c main_v69 (by decide))).trans (U10_of m c main_v69 (by decide))).trans (U9_of m c main_v69 (by decide))).trans (U8_of m c main_v69 (by decide))).trans (U7_of m c main_v69 (by decide))).trans (U6_of m c main_v69 (by decide))

/-- `main_v144` reaches boundary 21 as boundary 16 has it. -/
theorem keep_v144_21 : U21 m c (Proc.devRef .tc main_v144) = U16 m c (Proc.devRef .tc main_v144) :=
  (((((U21_of m c main_v144 (by decide))).trans (U20_of m c main_v144 (by decide))).trans (U19_of m c main_v144 (by decide))).trans (U18_of m c main_v144 (by decide))).trans (U17_of m c main_v144 (by decide))

/-- `main_v149` reaches boundary 21 as boundary 20 has it. -/
theorem keep_v149_21 : U21 m c (Proc.devRef .tc main_v149) = U20 m c (Proc.devRef .tc main_v149) :=
  (U21_of m c main_v149 (by decide))

/-- `main_indices_23` reaches boundary 22 as boundary 16 has it. -/
theorem keep_indices_23_22 : U22 m c (Proc.devRef .tc main_indices_23) = U16 m c (Proc.devRef .tc main_indices_23) :=
  ((((((U22_of m c main_indices_23 (by decide))).trans (U21_of m c main_indices_23 (by decide))).trans (U20_of m c main_indices_23 (by decide))).trans (U19_of m c main_indices_23 (by decide))).trans (U18_of m c main_indices_23 (by decide))).trans (U17_of m c main_indices_23 (by decide))

/-- `main_v76` reaches boundary 22 as boundary 6 has it. -/
theorem keep_v76_22 : U22 m c (Proc.devRef .tc main_v76) = U6 m c (Proc.devRef .tc main_v76) :=
  ((((((((((((((((U22_of m c main_v76 (by decide))).trans (U21_of m c main_v76 (by decide))).trans (U20_of m c main_v76 (by decide))).trans (U19_of m c main_v76 (by decide))).trans (U18_of m c main_v76 (by decide))).trans (U17_of m c main_v76 (by decide))).trans (U16_of m c main_v76 (by decide))).trans (U15_of m c main_v76 (by decide))).trans (U14_of m c main_v76 (by decide))).trans (U13_of m c main_v76 (by decide) (by decide) (by decide) (by decide) (by decide))).trans (U12_of m c main_v76 (by decide))).trans (U11_of m c main_v76 (by decide))).trans (U10_of m c main_v76 (by decide))).trans (U9_of m c main_v76 (by decide))).trans (U8_of m c main_v76 (by decide))).trans (U7_of m c main_v76 (by decide))

/-- `main_v144` reaches boundary 24 as boundary 16 has it. -/
theorem keep_v144_24 : U24 m c (Proc.devRef .tc main_v144) = U16 m c (Proc.devRef .tc main_v144) :=
  ((((((((U24_of m c main_v144 (by decide))).trans (U23_of m c main_v144 (by decide))).trans (U22_of m c main_v144 (by decide))).trans (U21_of m c main_v144 (by decide))).trans (U20_of m c main_v144 (by decide))).trans (U19_of m c main_v144 (by decide))).trans (U18_of m c main_v144 (by decide))).trans (U17_of m c main_v144 (by decide))

/-- `main_v151` reaches boundary 24 as boundary 23 has it. -/
theorem keep_v151_24 : U24 m c (Proc.devRef .tc main_v151) = U23 m c (Proc.devRef .tc main_v151) :=
  (U24_of m c main_v151 (by decide))

/-- `main_v148` reaches boundary 25 as boundary 19 has it. -/
theorem keep_v148_25 : U25 m c (Proc.devRef .tc main_v148) = U19 m c (Proc.devRef .tc main_v148) :=
  ((((((U25_of m c main_v148 (by decide))).trans (U24_of m c main_v148 (by decide))).trans (U23_of m c main_v148 (by decide))).trans (U22_of m c main_v148 (by decide))).trans (U21_of m c main_v148 (by decide))).trans (U20_of m c main_v148 (by decide))

/-- `main_v150` reaches boundary 26 as boundary 22 has it. -/
theorem keep_v150_26 : U26 m c (Proc.devRef .tc main_v150) = U22 m c (Proc.devRef .tc main_v150) :=
  ((((U26_of m c main_v150 (by decide))).trans (U25_of m c main_v150 (by decide))).trans (U24_of m c main_v150 (by decide))).trans (U23_of m c main_v150 (by decide))

/-- `main_v152` reaches boundary 26 as boundary 25 has it. -/
theorem keep_v152_26 : U26 m c (Proc.devRef .tc main_v152) = U25 m c (Proc.devRef .tc main_v152) :=
  (U26_of m c main_v152 (by decide))

/-- `main_arg3` reaches boundary 25 as boundary 0 has it. -/
theorem keep_arg3_25 : U25 m c (Proc.devRef .tc main_arg3) = U0 m c (Proc.devRef .tc main_arg3) :=
  (((((((((((((((((((((((((U25_of m c main_arg3 (by decide))).trans (U24_of m c main_arg3 (by decide))).trans (U23_of m c main_arg3 (by decide))).trans (U22_of m c main_arg3 (by decide))).trans (U21_of m c main_arg3 (by decide))).trans (U20_of m c main_arg3 (by decide))).trans (U19_of m c main_arg3 (by decide))).trans (U18_of m c main_arg3 (by decide))).trans (U17_of m c main_arg3 (by decide))).trans (U16_of m c main_arg3 (by decide))).trans (U15_of m c main_arg3 (by decide))).trans (U14_of m c main_arg3 (by decide))).trans (U13_of m c main_arg3 (by decide) (by decide) (by decide) (by decide) (by decide))).trans (U12_of m c main_arg3 (by decide))).trans (U11_of m c main_arg3 (by decide))).trans (U10_of m c main_arg3 (by decide))).trans (U9_of m c main_arg3 (by decide))).trans (U8_of m c main_arg3 (by decide))).trans (U7_of m c main_arg3 (by decide))).trans (U6_of m c main_arg3 (by decide))).trans (U5_of m c main_arg3 (by decide))).trans (U4_of m c main_arg3 (by decide))).trans (U3_of m c main_arg3 (by decide))).trans (U2_of m c main_arg3 (by decide))).trans (U1_of m c main_arg3 (by decide))

variable {A0 : FVec Ideal (s3 8 8732 81) .f32} {A1 : FVec Ideal (s3 8 8732 4) .f32} {A2 : FVec Ideal (s2 8732 4) .f32}
variable (h0 : m ((c : Thread nD τ).loc main_arg0) = A0) (h1 : m ((c : Thread nD τ).loc main_arg1) = A1) (h2 : m ((c : Thread nD τ).loc main_arg2) = A2)
include h0 h1 h2

/-- Every score that counts, in one row per image, minus one elsewhere. -/
theorem U2_flat : (U2 m c (Proc.devRef .tc main_v66) : FVec Ideal (s2 8 698560) .f32) = flat A0 A1 A2 :=
  flat_arr (U0 m c) _ _ _ h0 h1 h2

/-- The candidates' values. -/
theorem U3_values (b : Fin 8) (i : Fin 1000) : (U3 m c (Proc.devRef .tc main_values) : FVec Ideal (s2 8 1000) .f32) (ix2 b i) = vals A0 A1 A2 b i :=
  (congrFun (read_values (U2 m c) _ (U2_flat m c h0 h1 h2)) _).trans (best_value _ _ b i)

/-- The candidates' flat positions. -/
theorem U3_indices (b : Fin 8) (i : Fin 1000) : (U3 m c (Proc.devRef .tc main_indices) : IVec (s2 8 1000) 32) (ix2 b i) = BitVec.ofNat 32 (cand A0 A1 A2 b i).val :=
  (congrFun (read_indices (U2 m c) _ (U2_flat m c h0 h1 h2)) _).trans (best_index _ _ b i)

/-- The candidates' boxes. -/
theorem U4_v68 (b : Fin 8) (i : Fin 1000) (k : Fin 4) : (U4 m c (Proc.devRef .tc main_v68) : FVec Ideal (s3 8 1000 4) .f32) (ix3 b i k) = cbox A0 A1 A2 b i k := by
  refine (read_cbox (U3 m c) _ (cand A0 A1 A2 b i) b i k rfl (read_places (U2 m c) _ (U2_flat m c h0 h1 h2) b i)).trans ?_
  rw [keep_v47_3]
  exact boxes_cell (U0 m c) _ _ h1 h2 b _ k

/-- The candidates' scores. -/
theorem U5_v69 (b : Fin 8) (i : Fin 1000) : (U5 m c (Proc.devRef .tc main_v69) : FVec Ideal (s2 8 1000) .f32) (ix2 b i) = cscore A0 A1 A2 b i := by
  refine (read_cscore (U4 m c) _ (cand A0 A1 A2 b i) b i rfl ?_).trans ?_
  · rw [keep_indices_4]
    exact U3_indices m c h0 h1 h2 b i
  · rw [keep_v38_4]
    exact prob_cell (U0 m c) _ h0 b _

/-- The candidates' labels. -/
theorem U6_v76 (b : Fin 8) (i : Fin 1000) : (U6 m c (Proc.devRef .tc main_v76) : IVec (s2 8 1000) 32) (ix2 b i) = clab A0 A1 A2 b i := by
  refine (read_label (U5 m c) _ (cand A0 A1 A2 b i) b i rfl ?_).trans ?_
  · rw [keep_indices_5]
    exact U3_indices m c h0 h1 h2 b i
  · rw [keep_v44_5]
    exact label_cell (U0 m c) _

open Classical in
/-- Which candidates count. -/
theorem U6_v78 (b : Fin 8) (i : Fin 1000) : (U6 m c (Proc.devRef .tc main_v78) : IVec (s2 8 1000) 1) (ix2 b i) = BitVec.ofBool (decide (valid A0 A1 A2 b i)) := by
  refine (read_valid (U5 m c) (vals A0 A1 A2 b i) b i ?_).trans ?_
  · rw [keep_values_5]
    exact U3_values m c h0 h1 h2 b i
  · unfold valid
    congr

/-- The candidates' boxes, moved apart by label. -/
theorem U6_v88 (b : Fin 8) (i : Fin 1000) (k : Fin 4) : (U6 m c (Proc.devRef .tc main_v88) : FVec Ideal (s3 8 1000 4) .f32) (ix3 b i k) = obox A0 A1 A2 b i k :=
  moved_cell (U5 m c) (cbox A0 A1 A2 b) _ b i k (fun i k => by rw [keep_v68_5]; exact U4_v68 m c h0 h1 h2 b i k) (U6_v76 m c h0 h1 h2 b i)

/-- The moved boxes' areas. -/
theorem U10_v101 (b : Fin 8) (i : Fin 1000) : (U10 m c (Proc.devRef .tc main_v101) : FVec Ideal (s2 8 1000) .f32) (ix2 b i) = area (obox A0 A1 A2 b i) := by
  refine read_area (U9 m c) _ _ b i ?_ ?_
  · rw [keep_v94_9]
    exact read_wide (U6 m c) _ b i (read_c_15 (U5 m c)) (read_width (U5 m c) _ b (fun i k => U6_v88 m c h0 h1 h2 b i k) i)
  · refine read_high (U8 m c) _ b i (read_c_16 (U7 m c)) (read_height (U7 m c) (obox A0 A1 A2 b) b (fun i k => ?_) i)
    rw [keep_v88_7]
    exact U6_v88 m c h0 h1 h2 b i k

/-- The extents two moved boxes share. -/
theorem U11_v117 (b : Fin 8) (i j : Fin 1000) (a : Fin 2) : (U11 m c (Proc.devRef .tc main_v117) : FVec Ideal (⟨4, ![8, 1000, 1000, 2]⟩ : Shape) .f32) (ix4 b i j a)
    = max 0 (min (obox A0 A1 A2 b i ⟨2 + a.val, by omega⟩) (obox A0 A1 A2 b j ⟨2 + a.val, by omega⟩)
        - max (obox A0 A1 A2 b i ⟨a.val, by omega⟩) (obox A0 A1 A2 b j ⟨a.val, by omega⟩)) :=
  read_meet (U10 m c) _ b i j a (read_c_17 (U9 m c)) (read_extent2 (U9 m c) (obox A0 A1 A2 b) b (fun i k => by rw [keep_v88_9]; exact U6_v88 m c h0 h1 h2 b i k) i j a)

open Classical in
/-- The overlaps as the loop finds them. -/
theorem U12_overlaps (b : Fin 8) (i j : Fin 1000) : (U12 m c (Proc.devRef .tc main_v140_0) : FVec Ideal (s3 8 1000 1000) .f32) (ix3 b i j)
    = overlapOf (valid A0 A1 A2 b) (obox A0 A1 A2 b) i j := by
  have hv (i : Fin 1000) : (U11 m c (Proc.devRef .tc main_v78) : IVec (s2 8 1000) 1) (ix2 b i) = BitVec.ofBool (decide (valid A0 A1 A2 b i)) := by
    rw [keep_v78_11]
    exact U6_v78 m c h0 h1 h2 b i
  have ha (i : Fin 1000) : (U11 m c (Proc.devRef .tc main_v101) : FVec Ideal (s2 8 1000) .f32) (ix2 b i) = area (obox A0 A1 A2 b i) := by
    rw [keep_v101_11]
    exact U10_v101 m c h0 h1 h2 b i
  exact (read_overlaps (U11 m c) _ _ _ _ _ b i j (fun a => U11_v117 m c h0 h1 h2 b i j a) (ha i) (ha j) (hv i) (hv j)).trans rfl

open Classical in
/-- Which candidates are left. -/
theorem U14_v141 (b : Fin 8) (i : Fin 1000) : (U14 m c (Proc.devRef .tc main_v141) : IVec (s2 8 1000) 1) (ix2 b i)
    = BitVec.ofBool (decide (survives (valid A0 A1 A2 b) (obox A0 A1 A2 b) i ∧ valid A0 A1 A2 b i)) := by
  refine read_alive (U13 m c) _ _ b i (U13_alive m c (valid A0 A1 A2) (obox A0 A1 A2) (fun b i j => U12_overlaps m c h0 h1 h2 b i j)
    (read_positions (U11 m c)) (read_start (U11 m c)) (fun b j => ?_) b i) ?_
  · refine (congrFun (read_starting (U11 m c) _ rfl) _).trans ?_
    rw [keep_v78_11]
    exact U6_v78 m c h0 h1 h2 b j
  · rw [keep_v78_13]
    exact U6_v78 m c h0 h1 h2 b i

/-- The candidates' scores, minus one where suppressed. -/
theorem U15_v142 : (U15 m c (Proc.devRef .tc main_v142) : FVec Ideal (s2 8 1000) .f32) = left A0 A1 A2 := by
  classical
  refine cells2 _ _ fun y0 y1 => ?_
  refine (read_left (U14 m c) (vals A0 A1 A2 y0 y1) _ y0 y1 (read_cst_21 _) ?_ (U14_v141 m c h0 h1 h2 y0 y1)).trans ?_
  · rw [keep_values_14]
    exact U3_values m c h0 h1 h2 y0 y1
  · unfold left
    congr

open Classical in
/-- The detections' boxes. -/
theorem U19_v148 : (U19 m c (Proc.devRef .tc main_v148) : FVec Ideal (s3 8 100 4) .f32) = outBoxes A0 A1 A2 := by
  refine cells3 _ _ fun y0 y1 y2 => ?_
  refine (read_outBoxes (U18 m c) (cbox A0 A1 A2 y0 (pick A0 A1 A2 y0 y1) y2) (found A0 A1 A2 y0 y1) y0 y1 y2 (read_cst_25 _) ?_ ?_).trans ?_
  · rw [keep_v147_18]
    refine (read_fbox (U16 m c) _ y0 y1 y2 (read_picks (U15 m c) _ (U15_v142 m c h0 h1 h2) y0 y1)).trans ?_
    rw [keep_v68_16]
    exact U4_v68 m c h0 h1 h2 y0 _ y2
  · rw [keep_v145_18]
    refine (read_found_column (U15 m c) _ (U15_v142 m c h0 h1 h2) y0 y1).trans ?_
    unfold found pick
    congr
  · rfl

open Classical in
/-- The detections. -/
theorem U16_v144 (b : Fin 8) (i : Fin 100) : (U16 m c (Proc.devRef .tc main_v144) : IVec (s2 8 100) 1) (ix2 b i) = BitVec.ofBool (decide (found A0 A1 A2 b i)) := by
  refine (read_found (U15 m c) _ (U15_v142 m c h0 h1 h2) b i).trans ?_
  unfold found pick
  congr

/-- The detections' candidates. -/
theorem U16_picks (b : Fin 8) (i : Fin 100) : (U16 m c (Proc.devRef .tc main_indices_23) : IVec (s2 8 100) 32) (ix2 b i) = BitVec.ofNat 32 (pick A0 A1 A2 b i).val :=
  (congrFun (read_indices_23 (U15 m c) _ (U15_v142 m c h0 h1 h2)) _).trans (best_index _ _ b i)

open Classical in
/-- The reference's second result: the detections' scores. -/
theorem U26_v150 : (U26 m c (Proc.devRef .tc main_v150) : FVec Ideal (s2 8 100) .f32) = outScores A0 A1 A2 := by
  rw [keep_v150_26]
  refine cells2 _ _ fun y0 y1 => ?_
  refine (read_outScores (U21 m c) (cscore A0 A1 A2 y0 (pick A0 A1 A2 y0 y1)) (found A0 A1 A2 y0 y1) y0 y1 (read_cst_26 _) ?_ ?_).trans ?_
  · rw [keep_v149_21]
    refine (read_fscore (U19 m c) (pick A0 A1 A2 y0 y1) y0 y1 ?_).trans ?_
    · rw [keep_indices_23_19]
      exact U16_picks m c h0 h1 h2 y0 y1
    · rw [keep_v69_19]
      exact U5_v69 m c h0 h1 h2 y0 _
  · rw [keep_v144_21]
    exact U16_v144 m c h0 h1 h2 y0 y1
  · rfl

open Classical in
/-- The reference's third result: the detections' labels. -/
theorem U26_v152 : (U26 m c (Proc.devRef .tc main_v152) : IVec (s2 8 100) 32) = outLabels A0 A1 A2 := by
  rw [keep_v152_26]
  refine cells2 _ _ fun y0 y1 => ?_
  refine (read_outLabels (U24 m c) (clab A0 A1 A2 y0 (pick A0 A1 A2 y0 y1)) (found A0 A1 A2 y0 y1) y0 y1 (read_c_27 _) ?_ ?_).trans ?_
  · rw [keep_v151_24]
    refine (read_flab (U22 m c) (pick A0 A1 A2 y0 y1) y0 y1 ?_).trans ?_
    · rw [keep_indices_23_22]
      exact U16_picks m c h0 h1 h2 y0 y1
    · rw [keep_v76_22]
      exact U6_v76 m c h0 h1 h2 y0 _
  · rw [keep_v144_24]
    exact U16_v144 m c h0 h1 h2 y0 y1
  · rfl

/-- The reference's first result: the detections' boxes, scaled. -/
theorem U26_v158 (t : IVec (s2 8 2) 32) (h3 : m ((c : Thread nD τ).loc main_arg3) = t) :
    (U26 m c (Proc.devRef .tc main_v158) : FVec Ideal (s3 8 100 4) .f32) = mulf (outBoxes A0 A1 A2) (scales t) :=
  read_scaled (U25 m c) _ _ ((keep_v148_25 m c).trans (U19_v148 m c h0 h1 h2)) ((keep_arg3_25 m c).trans h3)

end Cert.ReferenceIdeal.Value
end
-- ==== Proof.Algebraic.lean ====
/- The kernel's three results are the reference's: both end at the detections the candidates' mathematics gives. -/
module

public import proofs.«01_k».proof.Defs
public import proofs.«01_k».proof.Proof.KRun
public import proofs.«01_k».proof.Proof.KChain
public import proofs.«01_k».proof.Proof.RChain

@[expose] public section

set_option maxRecDepth 16384

noncomputable section

namespace Cert.Nms

open Idealize.ShloMosaic Idealize.ShloMosaic.TcCoe Idealize.SL.Sem

/-- From equal arguments the kernel and the reference both end with the scaled boxes, the scores and the labels of the detections. -/
theorem algebraic : algebraic_KernelIdeal_ReferenceIdeal (hKernelIdeal := KernelIdeal.Gen.facts) (hReferenceIdeal := ReferenceIdeal.Gen.facts) := by
  intro m g m' g' _ hm
  refine ⟨fun c => mulf (outBoxes (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2))) (scales (m ((c.tc : Thread KernelIdeal.nD KernelIdeal.τ).loc KernelIdeal.main_arg3))),
    fun c => outScores (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)),
    fun c => outLabels (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)), ?_, ?_⟩
  · refine (θ_run _ _ _).mono (fun r h c => ?_) (KernelIdeal.Gen.kernel_run m g)
    obtain ⟨e0, e1, e2, ha⟩ := h c
    exact ⟨e0.trans (KernelIdeal.Gen.W25_v48 m g c rfl rfl rfl _ rfl), e1.trans (KernelIdeal.Gen.W25_v40 m g c rfl rfl rfl), e2.trans (KernelIdeal.Gen.W25_v42 m g c rfl rfl rfl), ha⟩
  · refine (θ_run _ _ _).mono (fun r h c => ?_) (ReferenceIdeal.Value.reference_run m' g')
    obtain ⟨e0, e1, e2, ha⟩ := h c
    obtain ⟨h0, h1, h2, h3⟩ := hm c
    exact ⟨e0.trans (ReferenceIdeal.Value.U26_v158 m' c h0 h1 h2 _ h3), e1.trans (ReferenceIdeal.Value.U26_v150 m' c h0 h1 h2), e2.trans (ReferenceIdeal.Value.U26_v152 m' c h0 h1 h2), ha⟩

end Cert.Nms
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Value.reference_frame m ρ, trivial, Cert.Nms.algebraic⟩

end Cert.Proof

end
